-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 12288]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![12288, 1536]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S2x3x4x96x768 : Shape := ⟨5, ![2, 3, 4, 96, 768]⟩
abbrev S2x3x96x768 : Shape := ⟨4, ![2, 3, 96, 768]⟩
abbrev S2x4x96x768 : Shape := ⟨4, ![2, 4, 96, 768]⟩
abbrev S2x96x768 : Shape := ⟨3, ![2, 96, 768]⟩
abbrev S2x4x3x96x768 : Shape := ⟨5, ![2, 4, 3, 96, 768]⟩
abbrev S2x3x4 : Shape := ⟨3, ![2, 3, 4]⟩
abbrev S2x3 : Shape := ⟨2, ![2, 3]⟩
abbrev S2x4x3 : Shape := ⟨3, ![2, 4, 3]⟩
abbrev S_ : Shape := ⟨0, ![]⟩
abbrev S768x768 : Shape := ⟨2, ![768, 768]⟩
abbrev S96x768 : Shape := ⟨2, ![96, 768]⟩
abbrev S1x1x1x96x768 : Shape := ⟨5, ![1, 1, 1, 96, 768]⟩
abbrev S1x1x1 : Shape := ⟨3, ![1, 1, 1]⟩
abbrev S1x1x96x768 : Shape := ⟨4, ![1, 1, 96, 768]⟩
abbrev S1x1 : Shape := ⟨2, ![1, 1]⟩
abbrev S1x96x768 : Shape := ⟨3, ![1, 96, 768]⟩

abbrev nBuf : Space → Nat
  | .hbm => 3
  | .vmem => 13
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .bf16⟩
  | .local _ .vmem, ⟨0, _⟩ => ⟨S1536x768, .bf16⟩
  | .local _ .vmem, ⟨1, _⟩ => ⟨S768x1536, .bf16⟩
  | .local _ .vmem, ⟨2, _⟩ => ⟨S1536x1536, .bf16⟩
  | .local _ .vmem, ⟨3, _⟩ => ⟨S1536x768, .bf16⟩
  | .local _ .vmem, ⟨4, _⟩ => ⟨S768x1536, .bf16⟩
  | .local _ .vmem, ⟨5, _⟩ => ⟨S2x3x4x96x768, .bf16⟩
  | .local _ .vmem, ⟨6, _⟩ => ⟨S2x3x4x96x768, .bf16⟩
  | .local _ .vmem, ⟨7, _⟩ => ⟨S2x3x96x768, .bf16⟩
  | .local _ .vmem, ⟨8, _⟩ => ⟨S2x3x96x768, .bf16⟩
  | .local _ .vmem, ⟨9, _⟩ => ⟨S2x4x96x768, .f32⟩
  | .local _ .vmem, ⟨10, _⟩ => ⟨S2x96x768, .bf16⟩
  | .local _ .vmem, ⟨11, _⟩ => ⟨S2x3x96x768, .bf16⟩
  | .local _ .vmem, ⟨12, _⟩ => ⟨S2x4x3x96x768, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  (ofTc nBuf bufTy 1 123 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_52 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_51 : BitVec 32 := 1#32
  let v93 : BitVec 32 := Scalar.muli v42 c1_i32_51
  let v94 : BitVec 32 := Scalar.addi c0_i32_52 v93
  v94.toNat
def k0_dev2 (d0 : Dev nD) : Nat :=
  let c0_i32_55 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_54 : BitVec 32 := 1#32
  let v95 : BitVec 32 := Scalar.muli v55 c1_i32_54
  let v96 : BitVec 32 := Scalar.addi c0_i32_55 v95
  v96.toNat
def k0_dev3 (d0 : Dev nD) : Nat :=
  let c0_i32_58 : BitVec 32 := 0#32
  let c4_i32_34 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let v67 : BitVec 32 := Scalar.muli c4_i32_34 v66
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_57 : BitVec 32 := 1#32
  let v97 : BitVec 32 := Scalar.muli v68 c1_i32_57
  let v98 : BitVec 32 := Scalar.addi c0_i32_58 v97
  v98.toNat
def k0_dev4 (d0 : Dev nD) : Nat :=
  let c0_i32_61 : BitVec 32 := 0#32
  let c4_i32_42 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let v80 : BitVec 32 := Scalar.muli c4_i32_42 v79
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_60 : BitVec 32 := 1#32
  let v99 : BitVec 32 := Scalar.muli v81 c1_i32_60
  let v100 : BitVec 32 := Scalar.addi c0_i32_61 v99
  v100.toNat
def k0_off1 (d0 : Dev nD) (c0_i32_65 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c384_i32 : BitVec 32 := 384#32
  let v102 : BitVec 32 := Scalar.muli v29 c384_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v103 : BitVec 32 := Scalar.subi v19 c0_i32_65
  let c4_i32_66 : BitVec 32 := 4#32
  let c0_i32_67 : BitVec 32 := 0#32
  let v104 : BitVec 1 := Scalar.cmpi .eq c4_i32_66 c0_i32_67
  let c1_i32_68 : BitVec 32 := 1#32
  let v105 : BitVec 32 := Scalar.select v104 c1_i32_68 c4_i32_66
  let v106 : BitVec 32 := Scalar.remsi v103 v105
  let c0_i32_70 : BitVec 32 := 0#32
  let v108 : BitVec 1 := Scalar.cmpi .slt v106 c0_i32_70
  let c0_i32_71 : BitVec 32 := 0#32
  let v109 : BitVec 1 := Scalar.cmpi .slt v105 c0_i32_71
  let v110 : BitVec 1 := Scalar.xori v108 v109
  let c0_i32_69 : BitVec 32 := 0#32
  let v107 : BitVec 1 := Scalar.cmpi .ne v106 c0_i32_69
  let v111 : BitVec 1 := Scalar.andi v110 v107
  let v112 : BitVec 32 := Scalar.addi v106 v105
  let v113 : BitVec 32 := Scalar.select v111 v112 v106
  let c96_i32 : BitVec 32 := 96#32
  let v114 : BitVec 32 := Scalar.muli v113 c96_i32
  let v115 : BitVec 32 := Scalar.addi v102 v114
  let v116 : Index := Scalar.indexCast v115
  let c0_72 : Index := 0#32
  ![v116.toNat, 0]
def k0_dev5 (d0 : Dev nD) : Nat :=
  let c0_i32_91 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_90 : BitVec 32 := 1#32
  let v123 : BitVec 32 := Scalar.muli v42 c1_i32_90
  let v124 : BitVec 32 := Scalar.addi c0_i32_91 v123
  v124.toNat
def k0_off2 (d0 : Dev nD) (c0_i32_98 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c384_i32_97 : BitVec 32 := 384#32
  let v134 : BitVec 32 := Scalar.muli v29 c384_i32_97
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v135 : BitVec 32 := Scalar.addi v19 c0_i32_98
  let c4_i32_99 : BitVec 32 := 4#32
  let c0_i32_100 : BitVec 32 := 0#32
  let v136 : BitVec 1 := Scalar.cmpi .eq c4_i32_99 c0_i32_100
  let c1_i32_101 : BitVec 32 := 1#32
  let v137 : BitVec 32 := Scalar.select v136 c1_i32_101 c4_i32_99
  let v138 : BitVec 32 := Scalar.remsi v135 v137
  let c0_i32_103 : BitVec 32 := 0#32
  let v140 : BitVec 1 := Scalar.cmpi .slt v138 c0_i32_103
  let c0_i32_104 : BitVec 32 := 0#32
  let v141 : BitVec 1 := Scalar.cmpi .slt v137 c0_i32_104
  let v142 : BitVec 1 := Scalar.xori v140 v141
  let c0_i32_102 : BitVec 32 := 0#32
  let v139 : BitVec 1 := Scalar.cmpi .ne v138 c0_i32_102
  let v143 : BitVec 1 := Scalar.andi v142 v139
  let v144 : BitVec 32 := Scalar.addi v138 v137
  let v145 : BitVec 32 := Scalar.select v143 v144 v138
  let c96_i32_105 : BitVec 32 := 96#32
  let v146 : BitVec 32 := Scalar.muli v145 c96_i32_105
  let v147 : BitVec 32 := Scalar.addi v134 v146
  let v148 : Index := Scalar.indexCast v147
  let c0_106 : Index := 0#32
  ![v148.toNat, 0]
def k0_dev6 (d0 : Dev nD) : Nat :=
  let c0_i32_125 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_124 : BitVec 32 := 1#32
  let v155 : BitVec 32 := Scalar.muli v55 c1_i32_124
  let v156 : BitVec 32 := Scalar.addi c0_i32_125 v155
  v156.toNat
def k0_dev7 (d0 : Dev nD) : Nat :=
  let c0_i32_161 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_160 : BitVec 32 := 1#32
  let v187 : BitVec 32 := Scalar.muli v42 c1_i32_160
  let v188 : BitVec 32 := Scalar.addi c0_i32_161 v187
  v188.toNat
def k0_dev8 (d0 : Dev nD) : Nat :=
  let c0_i32_197 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_196 : BitVec 32 := 1#32
  let v219 : BitVec 32 := Scalar.muli v55 c1_i32_196
  let v220 : BitVec 32 := Scalar.addi c0_i32_197 v219
  v220.toNat
def k0_dev9 (d0 : Dev nD) : Nat :=
  let c0_i32_231 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_230 : BitVec 32 := 1#32
  let v251 : BitVec 32 := Scalar.muli v42 c1_i32_230
  let v252 : BitVec 32 := Scalar.addi c0_i32_231 v251
  v252.toNat
def k0_dev10 (d0 : Dev nD) : Nat :=
  let c0_i32_267 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_266 : BitVec 32 := 1#32
  let v283 : BitVec 32 := Scalar.muli v55 c1_i32_266
  let v284 : BitVec 32 := Scalar.addi c0_i32_267 v283
  v284.toNat
def k0_dev11 (d0 : Dev nD) : Nat :=
  let c0_i32_301 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_300 : BitVec 32 := 1#32
  let v315 : BitVec 32 := Scalar.muli v42 c1_i32_300
  let v316 : BitVec 32 := Scalar.addi c0_i32_301 v315
  v316.toNat
def k0_dev12 (d0 : Dev nD) : Nat :=
  let c0_i32_337 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_336 : BitVec 32 := 1#32
  let v347 : BitVec 32 := Scalar.muli v55 c1_i32_336
  let v348 : BitVec 32 := Scalar.addi c0_i32_337 v347
  v348.toNat
def k0_off3 (d0 : Dev nD) (c0_i32_342 : BitVec 32) (c0_i32_353 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v357 : BitVec 32 := Scalar.subi v29 c0_i32_342
  let c1_i32_343 : BitVec 32 := 1#32
  let v358 : BitVec 32 := Scalar.subi v357 c1_i32_343
  let c4_i32_344 : BitVec 32 := 4#32
  let c0_i32_345 : BitVec 32 := 0#32
  let v359 : BitVec 1 := Scalar.cmpi .eq c4_i32_344 c0_i32_345
  let c1_i32_346 : BitVec 32 := 1#32
  let v360 : BitVec 32 := Scalar.select v359 c1_i32_346 c4_i32_344
  let v361 : BitVec 32 := Scalar.remsi v358 v360
  let c0_i32_348 : BitVec 32 := 0#32
  let v363 : BitVec 1 := Scalar.cmpi .slt v361 c0_i32_348
  let c0_i32_349 : BitVec 32 := 0#32
  let v364 : BitVec 1 := Scalar.cmpi .slt v360 c0_i32_349
  let v365 : BitVec 1 := Scalar.xori v363 v364
  let c0_i32_347 : BitVec 32 := 0#32
  let v362 : BitVec 1 := Scalar.cmpi .ne v361 c0_i32_347
  let v366 : BitVec 1 := Scalar.andi v365 v362
  let v367 : BitVec 32 := Scalar.addi v361 v360
  let v368 : BitVec 32 := Scalar.select v366 v367 v361
  let c384_i32_352 : BitVec 32 := 384#32
  let v370 : BitVec 32 := Scalar.muli v368 c384_i32_352
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v371 : BitVec 32 := Scalar.subi v19 c0_i32_353
  let c4_i32_354 : BitVec 32 := 4#32
  let c0_i32_355 : BitVec 32 := 0#32
  let v372 : BitVec 1 := Scalar.cmpi .eq c4_i32_354 c0_i32_355
  let c1_i32_356 : BitVec 32 := 1#32
  let v373 : BitVec 32 := Scalar.select v372 c1_i32_356 c4_i32_354
  let v374 : BitVec 32 := Scalar.remsi v371 v373
  let c0_i32_358 : BitVec 32 := 0#32
  let v376 : BitVec 1 := Scalar.cmpi .slt v374 c0_i32_358
  let c0_i32_359 : BitVec 32 := 0#32
  let v377 : BitVec 1 := Scalar.cmpi .slt v373 c0_i32_359
  let v378 : BitVec 1 := Scalar.xori v376 v377
  let c0_i32_357 : BitVec 32 := 0#32
  let v375 : BitVec 1 := Scalar.cmpi .ne v374 c0_i32_357
  let v379 : BitVec 1 := Scalar.andi v378 v375
  let v380 : BitVec 32 := Scalar.addi v374 v373
  let v381 : BitVec 32 := Scalar.select v379 v380 v374
  let c96_i32_360 : BitVec 32 := 96#32
  let v382 : BitVec 32 := Scalar.muli v381 c96_i32_360
  let v383 : BitVec 32 := Scalar.addi v370 v382
  let v384 : Index := Scalar.indexCast v383
  let c0_361 : Index := 0#32
  ![v384.toNat, 0]
def k0_off4 (d0 : Dev nD) (c0_i32_363 : BitVec 32) (c0_i32_374 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v387 : BitVec 32 := Scalar.addi v29 c0_i32_363
  let c1_i32_364 : BitVec 32 := 1#32
  let v388 : BitVec 32 := Scalar.addi v387 c1_i32_364
  let c4_i32_365 : BitVec 32 := 4#32
  let c0_i32_366 : BitVec 32 := 0#32
  let v389 : BitVec 1 := Scalar.cmpi .eq c4_i32_365 c0_i32_366
  let c1_i32_367 : BitVec 32 := 1#32
  let v390 : BitVec 32 := Scalar.select v389 c1_i32_367 c4_i32_365
  let v391 : BitVec 32 := Scalar.remsi v388 v390
  let c0_i32_369 : BitVec 32 := 0#32
  let v393 : BitVec 1 := Scalar.cmpi .slt v391 c0_i32_369
  let c0_i32_370 : BitVec 32 := 0#32
  let v394 : BitVec 1 := Scalar.cmpi .slt v390 c0_i32_370
  let v395 : BitVec 1 := Scalar.xori v393 v394
  let c0_i32_368 : BitVec 32 := 0#32
  let v392 : BitVec 1 := Scalar.cmpi .ne v391 c0_i32_368
  let v396 : BitVec 1 := Scalar.andi v395 v392
  let v397 : BitVec 32 := Scalar.addi v391 v390
  let v398 : BitVec 32 := Scalar.select v396 v397 v391
  let c384_i32_373 : BitVec 32 := 384#32
  let v400 : BitVec 32 := Scalar.muli v398 c384_i32_373
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v401 : BitVec 32 := Scalar.addi v19 c0_i32_374
  let c4_i32_375 : BitVec 32 := 4#32
  let c0_i32_376 : BitVec 32 := 0#32
  let v402 : BitVec 1 := Scalar.cmpi .eq c4_i32_375 c0_i32_376
  let c1_i32_377 : BitVec 32 := 1#32
  let v403 : BitVec 32 := Scalar.select v402 c1_i32_377 c4_i32_375
  let v404 : BitVec 32 := Scalar.remsi v401 v403
  let c0_i32_379 : BitVec 32 := 0#32
  let v406 : BitVec 1 := Scalar.cmpi .slt v404 c0_i32_379
  let c0_i32_380 : BitVec 32 := 0#32
  let v407 : BitVec 1 := Scalar.cmpi .slt v403 c0_i32_380
  let v408 : BitVec 1 := Scalar.xori v406 v407
  let c0_i32_378 : BitVec 32 := 0#32
  let v405 : BitVec 1 := Scalar.cmpi .ne v404 c0_i32_378
  let v409 : BitVec 1 := Scalar.andi v408 v405
  let v410 : BitVec 32 := Scalar.addi v404 v403
  let v411 : BitVec 32 := Scalar.select v409 v410 v404
  let c96_i32_381 : BitVec 32 := 96#32
  let v412 : BitVec 32 := Scalar.muli v411 c96_i32_381
  let v413 : BitVec 32 := Scalar.addi v400 v412
  let v414 : Index := Scalar.indexCast v413
  let c0_382 : Index := 0#32
  ![v414.toNat, 0]
def k0_dev13 (d0 : Dev nD) : Nat :=
  let c0_i32_487 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_486 : BitVec 32 := 1#32
  let v461 : BitVec 32 := Scalar.muli v42 c1_i32_486
  let v462 : BitVec 32 := Scalar.addi c0_i32_487 v461
  v462.toNat
def k0_dev14 (d0 : Dev nD) : Nat :=
  let c0_i32_505 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_504 : BitVec 32 := 1#32
  let v471 : BitVec 32 := Scalar.muli v55 c1_i32_504
  let v472 : BitVec 32 := Scalar.addi c0_i32_505 v471
  v472.toNat
def k0_dev15 (d0 : Dev nD) : Nat :=
  let c0_i32_787 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_786 : BitVec 32 := 1#32
  let v689 : BitVec 32 := Scalar.muli v42 c1_i32_786
  let v690 : BitVec 32 := Scalar.addi c0_i32_787 v689
  v690.toNat
def k0_dev16 (d0 : Dev nD) : Nat :=
  let c0_i32_805 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_804 : BitVec 32 := 1#32
  let v699 : BitVec 32 := Scalar.muli v42 c1_i32_804
  let v700 : BitVec 32 := Scalar.addi c0_i32_805 v699
  v700.toNat
def k0_dev17 (d0 : Dev nD) : Nat :=
  let c0_i32_823 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_822 : BitVec 32 := 1#32
  let v709 : BitVec 32 := Scalar.muli v55 c1_i32_822
  let v710 : BitVec 32 := Scalar.addi c0_i32_823 v709
  v710.toNat
def k0_dev18 (d0 : Dev nD) : Nat :=
  let c0_i32_841 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_840 : BitVec 32 := 1#32
  let v719 : BitVec 32 := Scalar.muli v55 c1_i32_840
  let v720 : BitVec 32 := Scalar.addi c0_i32_841 v719
  v720.toNat
def k0_dev19 (d0 : Dev nD) : Nat :=
  let c0_i32_1261 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1260 : BitVec 32 := 1#32
  let v1047 : BitVec 32 := Scalar.muli v42 c1_i32_1260
  let v1048 : BitVec 32 := Scalar.addi c0_i32_1261 v1047
  v1048.toNat
def k0_dev20 (d0 : Dev nD) : Nat :=
  let c0_i32_1279 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1278 : BitVec 32 := 1#32
  let v1057 : BitVec 32 := Scalar.muli v42 c1_i32_1278
  let v1058 : BitVec 32 := Scalar.addi c0_i32_1279 v1057
  v1058.toNat
def k0_dev21 (d0 : Dev nD) : Nat :=
  let c0_i32_1297 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1296 : BitVec 32 := 1#32
  let v1067 : BitVec 32 := Scalar.muli v55 c1_i32_1296
  let v1068 : BitVec 32 := Scalar.addi c0_i32_1297 v1067
  v1068.toNat
def k0_dev22 (d0 : Dev nD) : Nat :=
  let c0_i32_1315 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1314 : BitVec 32 := 1#32
  let v1077 : BitVec 32 := Scalar.muli v55 c1_i32_1314
  let v1078 : BitVec 32 := Scalar.addi c0_i32_1315 v1077
  v1078.toNat
def k0_dev23 (d0 : Dev nD) : Nat :=
  let c0_i32_1329 : BitVec 32 := 0#32
  let c4_i32_34 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let v67 : BitVec 32 := Scalar.muli c4_i32_34 v66
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1328 : BitVec 32 := 1#32
  let v1087 : BitVec 32 := Scalar.muli v68 c1_i32_1328
  let v1088 : BitVec 32 := Scalar.addi c0_i32_1329 v1087
  v1088.toNat
def k0_dev24 (d0 : Dev nD) : Nat :=
  let c0_i32_1343 : BitVec 32 := 0#32
  let c4_i32_42 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let v80 : BitVec 32 := Scalar.muli c4_i32_42 v79
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1342 : BitVec 32 := 1#32
  let v1097 : BitVec 32 := Scalar.muli v81 c1_i32_1342
  let v1098 : BitVec 32 := Scalar.addi c0_i32_1343 v1097
  v1098.toNat
def k0_dev25 (d0 : Dev nD) : Nat :=
  let c0_i32_1833 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1832 : BitVec 32 := 1#32
  let v1465 : BitVec 32 := Scalar.muli v42 c1_i32_1832
  let v1466 : BitVec 32 := Scalar.addi c0_i32_1833 v1465
  v1466.toNat
def k0_dev26 (d0 : Dev nD) : Nat :=
  let c0_i32_1851 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1850 : BitVec 32 := 1#32
  let v1475 : BitVec 32 := Scalar.muli v42 c1_i32_1850
  let v1476 : BitVec 32 := Scalar.addi c0_i32_1851 v1475
  v1476.toNat
def k0_dev27 (d0 : Dev nD) : Nat :=
  let c0_i32_1869 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1868 : BitVec 32 := 1#32
  let v1485 : BitVec 32 := Scalar.muli v55 c1_i32_1868
  let v1486 : BitVec 32 := Scalar.addi c0_i32_1869 v1485
  v1486.toNat
def k0_dev28 (d0 : Dev nD) : Nat :=
  let c0_i32_1887 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1886 : BitVec 32 := 1#32
  let v1495 : BitVec 32 := Scalar.muli v55 c1_i32_1886
  let v1496 : BitVec 32 := Scalar.addi c0_i32_1887 v1495
  v1496.toNat
def k0_dev29 (d0 : Dev nD) : Nat :=
  let c0_i32_1901 : BitVec 32 := 0#32
  let c4_i32_34 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let v67 : BitVec 32 := Scalar.muli c4_i32_34 v66
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1900 : BitVec 32 := 1#32
  let v1505 : BitVec 32 := Scalar.muli v68 c1_i32_1900
  let v1506 : BitVec 32 := Scalar.addi c0_i32_1901 v1505
  v1506.toNat
def k0_dev30 (d0 : Dev nD) : Nat :=
  let c0_i32_1915 : BitVec 32 := 0#32
  let c4_i32_42 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let v80 : BitVec 32 := Scalar.muli c4_i32_42 v79
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1914 : BitVec 32 := 1#32
  let v1515 : BitVec 32 := Scalar.muli v81 c1_i32_1914
  let v1516 : BitVec 32 := Scalar.addi c0_i32_1915 v1515
  v1516.toNat
def k0_dev31 (d0 : Dev nD) : Nat :=
  let c0_i32_2273 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2272 : BitVec 32 := 1#32
  let v1779 : BitVec 32 := Scalar.muli v42 c1_i32_2272
  let v1780 : BitVec 32 := Scalar.addi c0_i32_2273 v1779
  v1780.toNat
def k0_dev32 (d0 : Dev nD) : Nat :=
  let c0_i32_2291 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2290 : BitVec 32 := 1#32
  let v1789 : BitVec 32 := Scalar.muli v55 c1_i32_2290
  let v1790 : BitVec 32 := Scalar.addi c0_i32_2291 v1789
  v1790.toNat
def k0_dev33 (d0 : Dev nD) : Nat :=
  let c0_i32_2305 : BitVec 32 := 0#32
  let c4_i32_34 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let v67 : BitVec 32 := Scalar.muli c4_i32_34 v66
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_2304 : BitVec 32 := 1#32
  let v1799 : BitVec 32 := Scalar.muli v68 c1_i32_2304
  let v1800 : BitVec 32 := Scalar.addi c0_i32_2305 v1799
  v1800.toNat
def k0_dev34 (d0 : Dev nD) : Nat :=
  let c0_i32_2319 : BitVec 32 := 0#32
  let c4_i32_42 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let v80 : BitVec 32 := Scalar.muli c4_i32_42 v79
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_2318 : BitVec 32 := 1#32
  let v1809 : BitVec 32 := Scalar.muli v81 c1_i32_2318
  let v1810 : BitVec 32 := Scalar.addi c0_i32_2319 v1809
  v1810.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2532 : BitVec 32 := 1#32
  let v1987 : BitVec 32 := Scalar.addi v29 c1_i32_2532
  let c4_i32_2533 : BitVec 32 := 4#32
  let c0_i32_2534 : BitVec 32 := 0#32
  let v1988 : BitVec 1 := Scalar.cmpi .eq c4_i32_2533 c0_i32_2534
  let c1_i32_2535 : BitVec 32 := 1#32
  let v1989 : BitVec 32 := Scalar.select v1988 c1_i32_2535 c4_i32_2533
  let v1990 : BitVec 32 := Scalar.remsi v1987 v1989
  let c0_i32_2537 : BitVec 32 := 0#32
  let v1992 : BitVec 1 := Scalar.cmpi .slt v1990 c0_i32_2537
  let c0_i32_2538 : BitVec 32 := 0#32
  let v1993 : BitVec 1 := Scalar.cmpi .slt v1989 c0_i32_2538
  let v1994 : BitVec 1 := Scalar.xori v1992 v1993
  let c0_i32_2536 : BitVec 32 := 0#32
  let v1991 : BitVec 1 := Scalar.cmpi .ne v1990 c0_i32_2536
  let v1995 : BitVec 1 := Scalar.andi v1994 v1991
  let v1996 : BitVec 32 := Scalar.addi v1990 v1989
  let v1997 : BitVec 32 := Scalar.select v1995 v1996 v1990
  let c384_i32_2546 : BitVec 32 := 384#32
  let v2011 : BitVec 32 := Scalar.muli v1997 c384_i32_2546
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2547 : BitVec 32 := 1#32
  let v2012 : BitVec 32 := Scalar.addi v19 c1_i32_2547
  let c4_i32_2548 : BitVec 32 := 4#32
  let c0_i32_2549 : BitVec 32 := 0#32
  let v2013 : BitVec 1 := Scalar.cmpi .eq c4_i32_2548 c0_i32_2549
  let c1_i32_2550 : BitVec 32 := 1#32
  let v2014 : BitVec 32 := Scalar.select v2013 c1_i32_2550 c4_i32_2548
  let v2015 : BitVec 32 := Scalar.remsi v2012 v2014
  let c0_i32_2552 : BitVec 32 := 0#32
  let v2017 : BitVec 1 := Scalar.cmpi .slt v2015 c0_i32_2552
  let c0_i32_2553 : BitVec 32 := 0#32
  let v2018 : BitVec 1 := Scalar.cmpi .slt v2014 c0_i32_2553
  let v2019 : BitVec 1 := Scalar.xori v2017 v2018
  let c0_i32_2551 : BitVec 32 := 0#32
  let v2016 : BitVec 1 := Scalar.cmpi .ne v2015 c0_i32_2551
  let v2020 : BitVec 1 := Scalar.andi v2019 v2016
  let v2021 : BitVec 32 := Scalar.addi v2015 v2014
  let v2022 : BitVec 32 := Scalar.select v2020 v2021 v2015
  let c96_i32_2554 : BitVec 32 := 96#32
  let v2023 : BitVec 32 := Scalar.muli v2022 c96_i32_2554
  let v2024 : BitVec 32 := Scalar.addi v2011 v2023
  let v2025 : Index := Scalar.indexCast v2024
  let c0_2555 : Index := 0#32
  ![v2025.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2539 : BitVec 32 := 1#32
  let v1998 : BitVec 32 := Scalar.subi v29 c1_i32_2539
  let c4_i32_2540 : BitVec 32 := 4#32
  let c0_i32_2541 : BitVec 32 := 0#32
  let v1999 : BitVec 1 := Scalar.cmpi .eq c4_i32_2540 c0_i32_2541
  let c1_i32_2542 : BitVec 32 := 1#32
  let v2000 : BitVec 32 := Scalar.select v1999 c1_i32_2542 c4_i32_2540
  let v2001 : BitVec 32 := Scalar.remsi v1998 v2000
  let c0_i32_2544 : BitVec 32 := 0#32
  let v2003 : BitVec 1 := Scalar.cmpi .slt v2001 c0_i32_2544
  let c0_i32_2545 : BitVec 32 := 0#32
  let v2004 : BitVec 1 := Scalar.cmpi .slt v2000 c0_i32_2545
  let v2005 : BitVec 1 := Scalar.xori v2003 v2004
  let c0_i32_2543 : BitVec 32 := 0#32
  let v2002 : BitVec 1 := Scalar.cmpi .ne v2001 c0_i32_2543
  let v2006 : BitVec 1 := Scalar.andi v2005 v2002
  let v2007 : BitVec 32 := Scalar.addi v2001 v2000
  let v2008 : BitVec 32 := Scalar.select v2006 v2007 v2001
  let c384_i32_2556 : BitVec 32 := 384#32
  let v2027 : BitVec 32 := Scalar.muli v2008 c384_i32_2556
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2557 : BitVec 32 := 1#32
  let v2028 : BitVec 32 := Scalar.subi v19 c1_i32_2557
  let c4_i32_2558 : BitVec 32 := 4#32
  let c0_i32_2559 : BitVec 32 := 0#32
  let v2029 : BitVec 1 := Scalar.cmpi .eq c4_i32_2558 c0_i32_2559
  let c1_i32_2560 : BitVec 32 := 1#32
  let v2030 : BitVec 32 := Scalar.select v2029 c1_i32_2560 c4_i32_2558
  let v2031 : BitVec 32 := Scalar.remsi v2028 v2030
  let c0_i32_2562 : BitVec 32 := 0#32
  let v2033 : BitVec 1 := Scalar.cmpi .slt v2031 c0_i32_2562
  let c0_i32_2563 : BitVec 32 := 0#32
  let v2034 : BitVec 1 := Scalar.cmpi .slt v2030 c0_i32_2563
  let v2035 : BitVec 1 := Scalar.xori v2033 v2034
  let c0_i32_2561 : BitVec 32 := 0#32
  let v2032 : BitVec 1 := Scalar.cmpi .ne v2031 c0_i32_2561
  let v2036 : BitVec 1 := Scalar.andi v2035 v2032
  let v2037 : BitVec 32 := Scalar.addi v2031 v2030
  let v2038 : BitVec 32 := Scalar.select v2036 v2037 v2031
  let c96_i32_2564 : BitVec 32 := 96#32
  let v2039 : BitVec 32 := Scalar.muli v2038 c96_i32_2564
  let v2040 : BitVec 32 := Scalar.addi v2027 v2039
  let v2041 : Index := Scalar.indexCast v2040
  let c768_2565 : Index := 768#32
  ![v2041.toNat, 768]
def k0_dev35 (d0 : Dev nD) : Nat :=
  let c0_i32_2580 : BitVec 32 := 0#32
  let c4_i32_34 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let v67 : BitVec 32 := Scalar.muli c4_i32_34 v66
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_2579 : BitVec 32 := 1#32
  let v2049 : BitVec 32 := Scalar.muli v68 c1_i32_2579
  let v2050 : BitVec 32 := Scalar.addi c0_i32_2580 v2049
  v2050.toNat
def k0_dev36 (d0 : Dev nD) : Nat :=
  let c0_i32_2593 : BitVec 32 := 0#32
  let c4_i32_42 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let v80 : BitVec 32 := Scalar.muli c4_i32_42 v79
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_2592 : BitVec 32 := 1#32
  let v2059 : BitVec 32 := Scalar.muli v81 c1_i32_2592
  let v2060 : BitVec 32 := Scalar.addi c0_i32_2593 v2059
  v2060.toNat
def k0_dev37 (d0 : Dev nD) : Nat :=
  let c0_i32_2609 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2608 : BitVec 32 := 1#32
  let v2069 : BitVec 32 := Scalar.muli v42 c1_i32_2608
  let v2070 : BitVec 32 := Scalar.addi c0_i32_2609 v2069
  v2070.toNat
def k0_dev38 (d0 : Dev nD) : Nat :=
  let c0_i32_2625 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2624 : BitVec 32 := 1#32
  let v2079 : BitVec 32 := Scalar.muli v55 c1_i32_2624
  let v2080 : BitVec 32 := Scalar.addi c0_i32_2625 v2079
  v2080.toNat
def k0_dev39 (d0 : Dev nD) : Nat :=
  let c0_i32_2751 : BitVec 32 := 0#32
  let c4_i32_34 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let v67 : BitVec 32 := Scalar.muli c4_i32_34 v66
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_2750 : BitVec 32 := 1#32
  let v2145 : BitVec 32 := Scalar.muli v68 c1_i32_2750
  let v2146 : BitVec 32 := Scalar.addi c0_i32_2751 v2145
  v2146.toNat
def k0_dev40 (d0 : Dev nD) : Nat :=
  let c0_i32_2765 : BitVec 32 := 0#32
  let c4_i32_42 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let v80 : BitVec 32 := Scalar.muli c4_i32_42 v79
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_2764 : BitVec 32 := 1#32
  let v2155 : BitVec 32 := Scalar.muli v81 c1_i32_2764
  let v2156 : BitVec 32 := Scalar.addi c0_i32_2765 v2155
  v2156.toNat
def k0_dev41 (d0 : Dev nD) : Nat :=
  let c0_i32_2783 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2782 : BitVec 32 := 1#32
  let v2165 : BitVec 32 := Scalar.muli v42 c1_i32_2782
  let v2166 : BitVec 32 := Scalar.addi c0_i32_2783 v2165
  v2166.toNat
def k0_dev42 (d0 : Dev nD) : Nat :=
  let c0_i32_2800 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2799 : BitVec 32 := 1#32
  let v2175 : BitVec 32 := Scalar.muli v42 c1_i32_2799
  let v2176 : BitVec 32 := Scalar.addi c0_i32_2800 v2175
  v2176.toNat
def k0_dev43 (d0 : Dev nD) : Nat :=
  let c0_i32_2818 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2817 : BitVec 32 := 1#32
  let v2185 : BitVec 32 := Scalar.muli v55 c1_i32_2817
  let v2186 : BitVec 32 := Scalar.addi c0_i32_2818 v2185
  v2186.toNat
def k0_dev44 (d0 : Dev nD) : Nat :=
  let c0_i32_2835 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2834 : BitVec 32 := 1#32
  let v2195 : BitVec 32 := Scalar.muli v55 c1_i32_2834
  let v2196 : BitVec 32 := Scalar.addi c0_i32_2835 v2195
  v2196.toNat
def k0_off7 (d0 : Dev nD) (c1_i32_2842 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2532 : BitVec 32 := 1#32
  let v1987 : BitVec 32 := Scalar.addi v29 c1_i32_2532
  let c4_i32_2533 : BitVec 32 := 4#32
  let c0_i32_2534 : BitVec 32 := 0#32
  let v1988 : BitVec 1 := Scalar.cmpi .eq c4_i32_2533 c0_i32_2534
  let c1_i32_2535 : BitVec 32 := 1#32
  let v1989 : BitVec 32 := Scalar.select v1988 c1_i32_2535 c4_i32_2533
  let v1990 : BitVec 32 := Scalar.remsi v1987 v1989
  let c0_i32_2537 : BitVec 32 := 0#32
  let v1992 : BitVec 1 := Scalar.cmpi .slt v1990 c0_i32_2537
  let c0_i32_2538 : BitVec 32 := 0#32
  let v1993 : BitVec 1 := Scalar.cmpi .slt v1989 c0_i32_2538
  let v1994 : BitVec 1 := Scalar.xori v1992 v1993
  let c0_i32_2536 : BitVec 32 := 0#32
  let v1991 : BitVec 1 := Scalar.cmpi .ne v1990 c0_i32_2536
  let v1995 : BitVec 1 := Scalar.andi v1994 v1991
  let v1996 : BitVec 32 := Scalar.addi v1990 v1989
  let v1997 : BitVec 32 := Scalar.select v1995 v1996 v1990
  let c384_i32_2840 : BitVec 32 := 384#32
  let v2205 : BitVec 32 := Scalar.muli v1997 c384_i32_2840
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2841 : BitVec 32 := 1#32
  let v2206 : BitVec 32 := Scalar.addi v19 c1_i32_2841
  let v2207 : BitVec 32 := Scalar.subi v2206 c1_i32_2842
  let c4_i32_2843 : BitVec 32 := 4#32
  let c0_i32_2844 : BitVec 32 := 0#32
  let v2208 : BitVec 1 := Scalar.cmpi .eq c4_i32_2843 c0_i32_2844
  let c1_i32_2845 : BitVec 32 := 1#32
  let v2209 : BitVec 32 := Scalar.select v2208 c1_i32_2845 c4_i32_2843
  let v2210 : BitVec 32 := Scalar.remsi v2207 v2209
  let c0_i32_2847 : BitVec 32 := 0#32
  let v2212 : BitVec 1 := Scalar.cmpi .slt v2210 c0_i32_2847
  let c0_i32_2848 : BitVec 32 := 0#32
  let v2213 : BitVec 1 := Scalar.cmpi .slt v2209 c0_i32_2848
  let v2214 : BitVec 1 := Scalar.xori v2212 v2213
  let c0_i32_2846 : BitVec 32 := 0#32
  let v2211 : BitVec 1 := Scalar.cmpi .ne v2210 c0_i32_2846
  let v2215 : BitVec 1 := Scalar.andi v2214 v2211
  let v2216 : BitVec 32 := Scalar.addi v2210 v2209
  let v2217 : BitVec 32 := Scalar.select v2215 v2216 v2210
  let c96_i32_2849 : BitVec 32 := 96#32
  let v2218 : BitVec 32 := Scalar.muli v2217 c96_i32_2849
  let v2219 : BitVec 32 := Scalar.addi v2205 v2218
  let v2222 : Index := Scalar.indexCast v2219
  let c0_2854 : Index := 0#32
  ![v2222.toNat, 0]
def k0_off8 (d0 : Dev nD) (c1_i32_2857 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2539 : BitVec 32 := 1#32
  let v1998 : BitVec 32 := Scalar.subi v29 c1_i32_2539
  let c4_i32_2540 : BitVec 32 := 4#32
  let c0_i32_2541 : BitVec 32 := 0#32
  let v1999 : BitVec 1 := Scalar.cmpi .eq c4_i32_2540 c0_i32_2541
  let c1_i32_2542 : BitVec 32 := 1#32
  let v2000 : BitVec 32 := Scalar.select v1999 c1_i32_2542 c4_i32_2540
  let v2001 : BitVec 32 := Scalar.remsi v1998 v2000
  let c0_i32_2544 : BitVec 32 := 0#32
  let v2003 : BitVec 1 := Scalar.cmpi .slt v2001 c0_i32_2544
  let c0_i32_2545 : BitVec 32 := 0#32
  let v2004 : BitVec 1 := Scalar.cmpi .slt v2000 c0_i32_2545
  let v2005 : BitVec 1 := Scalar.xori v2003 v2004
  let c0_i32_2543 : BitVec 32 := 0#32
  let v2002 : BitVec 1 := Scalar.cmpi .ne v2001 c0_i32_2543
  let v2006 : BitVec 1 := Scalar.andi v2005 v2002
  let v2007 : BitVec 32 := Scalar.addi v2001 v2000
  let v2008 : BitVec 32 := Scalar.select v2006 v2007 v2001
  let c384_i32_2855 : BitVec 32 := 384#32
  let v2224 : BitVec 32 := Scalar.muli v2008 c384_i32_2855
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2856 : BitVec 32 := 1#32
  let v2225 : BitVec 32 := Scalar.subi v19 c1_i32_2856
  let v2226 : BitVec 32 := Scalar.addi v2225 c1_i32_2857
  let c4_i32_2858 : BitVec 32 := 4#32
  let c0_i32_2859 : BitVec 32 := 0#32
  let v2227 : BitVec 1 := Scalar.cmpi .eq c4_i32_2858 c0_i32_2859
  let c1_i32_2860 : BitVec 32 := 1#32
  let v2228 : BitVec 32 := Scalar.select v2227 c1_i32_2860 c4_i32_2858
  let v2229 : BitVec 32 := Scalar.remsi v2226 v2228
  let c0_i32_2862 : BitVec 32 := 0#32
  let v2231 : BitVec 1 := Scalar.cmpi .slt v2229 c0_i32_2862
  let c0_i32_2863 : BitVec 32 := 0#32
  let v2232 : BitVec 1 := Scalar.cmpi .slt v2228 c0_i32_2863
  let v2233 : BitVec 1 := Scalar.xori v2231 v2232
  let c0_i32_2861 : BitVec 32 := 0#32
  let v2230 : BitVec 1 := Scalar.cmpi .ne v2229 c0_i32_2861
  let v2234 : BitVec 1 := Scalar.andi v2233 v2230
  let v2235 : BitVec 32 := Scalar.addi v2229 v2228
  let v2236 : BitVec 32 := Scalar.select v2234 v2235 v2229
  let c96_i32_2864 : BitVec 32 := 96#32
  let v2237 : BitVec 32 := Scalar.muli v2236 c96_i32_2864
  let v2238 : BitVec 32 := Scalar.addi v2224 v2237
  let v2241 : Index := Scalar.indexCast v2238
  let c768_2869 : Index := 768#32
  ![v2241.toNat, 768]
def k0_off9 (d0 : Dev nD) (c0_i32_2870 : BitVec 32) (c0_i32_2879 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2243 : BitVec 32 := Scalar.subi v29 c0_i32_2870
  let c4_i32_2871 : BitVec 32 := 4#32
  let c0_i32_2872 : BitVec 32 := 0#32
  let v2244 : BitVec 1 := Scalar.cmpi .eq c4_i32_2871 c0_i32_2872
  let c1_i32_2873 : BitVec 32 := 1#32
  let v2245 : BitVec 32 := Scalar.select v2244 c1_i32_2873 c4_i32_2871
  let v2246 : BitVec 32 := Scalar.remsi v2243 v2245
  let c0_i32_2875 : BitVec 32 := 0#32
  let v2248 : BitVec 1 := Scalar.cmpi .slt v2246 c0_i32_2875
  let c0_i32_2876 : BitVec 32 := 0#32
  let v2249 : BitVec 1 := Scalar.cmpi .slt v2245 c0_i32_2876
  let v2250 : BitVec 1 := Scalar.xori v2248 v2249
  let c0_i32_2874 : BitVec 32 := 0#32
  let v2247 : BitVec 1 := Scalar.cmpi .ne v2246 c0_i32_2874
  let v2251 : BitVec 1 := Scalar.andi v2250 v2247
  let v2252 : BitVec 32 := Scalar.addi v2246 v2245
  let v2253 : BitVec 32 := Scalar.select v2251 v2252 v2246
  let c384_i32_2877 : BitVec 32 := 384#32
  let v2254 : BitVec 32 := Scalar.muli v2253 c384_i32_2877
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2878 : BitVec 32 := 1#32
  let v2255 : BitVec 32 := Scalar.addi v19 c1_i32_2878
  let v2256 : BitVec 32 := Scalar.subi v2255 c0_i32_2879
  let c4_i32_2880 : BitVec 32 := 4#32
  let c0_i32_2881 : BitVec 32 := 0#32
  let v2257 : BitVec 1 := Scalar.cmpi .eq c4_i32_2880 c0_i32_2881
  let c1_i32_2882 : BitVec 32 := 1#32
  let v2258 : BitVec 32 := Scalar.select v2257 c1_i32_2882 c4_i32_2880
  let v2259 : BitVec 32 := Scalar.remsi v2256 v2258
  let c0_i32_2884 : BitVec 32 := 0#32
  let v2261 : BitVec 1 := Scalar.cmpi .slt v2259 c0_i32_2884
  let c0_i32_2885 : BitVec 32 := 0#32
  let v2262 : BitVec 1 := Scalar.cmpi .slt v2258 c0_i32_2885
  let v2263 : BitVec 1 := Scalar.xori v2261 v2262
  let c0_i32_2883 : BitVec 32 := 0#32
  let v2260 : BitVec 1 := Scalar.cmpi .ne v2259 c0_i32_2883
  let v2264 : BitVec 1 := Scalar.andi v2263 v2260
  let v2265 : BitVec 32 := Scalar.addi v2259 v2258
  let v2266 : BitVec 32 := Scalar.select v2264 v2265 v2259
  let c96_i32_2886 : BitVec 32 := 96#32
  let v2267 : BitVec 32 := Scalar.muli v2266 c96_i32_2886
  let v2268 : BitVec 32 := Scalar.addi v2254 v2267
  let v2271 : Index := Scalar.indexCast v2268
  let c0_2892 : Index := 0#32
  ![v2271.toNat, 0]
def k0_off10 (d0 : Dev nD) (c0_i32_2893 : BitVec 32) (c0_i32_2902 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2273 : BitVec 32 := Scalar.addi v29 c0_i32_2893
  let c4_i32_2894 : BitVec 32 := 4#32
  let c0_i32_2895 : BitVec 32 := 0#32
  let v2274 : BitVec 1 := Scalar.cmpi .eq c4_i32_2894 c0_i32_2895
  let c1_i32_2896 : BitVec 32 := 1#32
  let v2275 : BitVec 32 := Scalar.select v2274 c1_i32_2896 c4_i32_2894
  let v2276 : BitVec 32 := Scalar.remsi v2273 v2275
  let c0_i32_2898 : BitVec 32 := 0#32
  let v2278 : BitVec 1 := Scalar.cmpi .slt v2276 c0_i32_2898
  let c0_i32_2899 : BitVec 32 := 0#32
  let v2279 : BitVec 1 := Scalar.cmpi .slt v2275 c0_i32_2899
  let v2280 : BitVec 1 := Scalar.xori v2278 v2279
  let c0_i32_2897 : BitVec 32 := 0#32
  let v2277 : BitVec 1 := Scalar.cmpi .ne v2276 c0_i32_2897
  let v2281 : BitVec 1 := Scalar.andi v2280 v2277
  let v2282 : BitVec 32 := Scalar.addi v2276 v2275
  let v2283 : BitVec 32 := Scalar.select v2281 v2282 v2276
  let c384_i32_2900 : BitVec 32 := 384#32
  let v2284 : BitVec 32 := Scalar.muli v2283 c384_i32_2900
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2901 : BitVec 32 := 1#32
  let v2285 : BitVec 32 := Scalar.subi v19 c1_i32_2901
  let v2286 : BitVec 32 := Scalar.addi v2285 c0_i32_2902
  let c4_i32_2903 : BitVec 32 := 4#32
  let c0_i32_2904 : BitVec 32 := 0#32
  let v2287 : BitVec 1 := Scalar.cmpi .eq c4_i32_2903 c0_i32_2904
  let c1_i32_2905 : BitVec 32 := 1#32
  let v2288 : BitVec 32 := Scalar.select v2287 c1_i32_2905 c4_i32_2903
  let v2289 : BitVec 32 := Scalar.remsi v2286 v2288
  let c0_i32_2907 : BitVec 32 := 0#32
  let v2291 : BitVec 1 := Scalar.cmpi .slt v2289 c0_i32_2907
  let c0_i32_2908 : BitVec 32 := 0#32
  let v2292 : BitVec 1 := Scalar.cmpi .slt v2288 c0_i32_2908
  let v2293 : BitVec 1 := Scalar.xori v2291 v2292
  let c0_i32_2906 : BitVec 32 := 0#32
  let v2290 : BitVec 1 := Scalar.cmpi .ne v2289 c0_i32_2906
  let v2294 : BitVec 1 := Scalar.andi v2293 v2290
  let v2295 : BitVec 32 := Scalar.addi v2289 v2288
  let v2296 : BitVec 32 := Scalar.select v2294 v2295 v2289
  let c96_i32_2909 : BitVec 32 := 96#32
  let v2297 : BitVec 32 := Scalar.muli v2296 c96_i32_2909
  let v2298 : BitVec 32 := Scalar.addi v2284 v2297
  let v2301 : Index := Scalar.indexCast v2298
  let c768_2915 : Index := 768#32
  ![v2301.toNat, 768]
def k0_dev45 (d0 : Dev nD) : Nat :=
  let c0_i32_3115 : BitVec 32 := 0#32
  let c4_i32_34 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let v67 : BitVec 32 := Scalar.muli c4_i32_34 v66
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_3114 : BitVec 32 := 1#32
  let v2387 : BitVec 32 := Scalar.muli v68 c1_i32_3114
  let v2388 : BitVec 32 := Scalar.addi c0_i32_3115 v2387
  v2388.toNat
def k0_dev46 (d0 : Dev nD) : Nat :=
  let c0_i32_3129 : BitVec 32 := 0#32
  let c4_i32_42 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let v80 : BitVec 32 := Scalar.muli c4_i32_42 v79
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_3128 : BitVec 32 := 1#32
  let v2397 : BitVec 32 := Scalar.muli v81 c1_i32_3128
  let v2398 : BitVec 32 := Scalar.addi c0_i32_3129 v2397
  v2398.toNat
def k0_dev47 (d0 : Dev nD) : Nat :=
  let c0_i32_3147 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3146 : BitVec 32 := 1#32
  let v2407 : BitVec 32 := Scalar.muli v42 c1_i32_3146
  let v2408 : BitVec 32 := Scalar.addi c0_i32_3147 v2407
  v2408.toNat
def k0_dev48 (d0 : Dev nD) : Nat :=
  let c0_i32_3165 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3164 : BitVec 32 := 1#32
  let v2417 : BitVec 32 := Scalar.muli v42 c1_i32_3164
  let v2418 : BitVec 32 := Scalar.addi c0_i32_3165 v2417
  v2418.toNat
def k0_dev49 (d0 : Dev nD) : Nat :=
  let c0_i32_3182 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3181 : BitVec 32 := 1#32
  let v2427 : BitVec 32 := Scalar.muli v42 c1_i32_3181
  let v2428 : BitVec 32 := Scalar.addi c0_i32_3182 v2427
  v2428.toNat
def k0_dev50 (d0 : Dev nD) : Nat :=
  let c0_i32_3200 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_3199 : BitVec 32 := 1#32
  let v2437 : BitVec 32 := Scalar.muli v55 c1_i32_3199
  let v2438 : BitVec 32 := Scalar.addi c0_i32_3200 v2437
  v2438.toNat
def k0_dev51 (d0 : Dev nD) : Nat :=
  let c0_i32_3218 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_3217 : BitVec 32 := 1#32
  let v2447 : BitVec 32 := Scalar.muli v55 c1_i32_3217
  let v2448 : BitVec 32 := Scalar.addi c0_i32_3218 v2447
  v2448.toNat
def k0_dev52 (d0 : Dev nD) : Nat :=
  let c0_i32_3235 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_3234 : BitVec 32 := 1#32
  let v2457 : BitVec 32 := Scalar.muli v55 c1_i32_3234
  let v2458 : BitVec 32 := Scalar.addi c0_i32_3235 v2457
  v2458.toNat
def k0_dev53 (d0 : Dev nD) : Nat :=
  let c0_i32_3635 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3634 : BitVec 32 := 1#32
  let v2737 : BitVec 32 := Scalar.muli v42 c1_i32_3634
  let v2738 : BitVec 32 := Scalar.addi c0_i32_3635 v2737
  v2738.toNat
def k0_dev54 (d0 : Dev nD) : Nat :=
  let c0_i32_3653 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3652 : BitVec 32 := 1#32
  let v2747 : BitVec 32 := Scalar.muli v42 c1_i32_3652
  let v2748 : BitVec 32 := Scalar.addi c0_i32_3653 v2747
  v2748.toNat
def k0_dev55 (d0 : Dev nD) : Nat :=
  let c0_i32_3670 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3669 : BitVec 32 := 1#32
  let v2757 : BitVec 32 := Scalar.muli v42 c1_i32_3669
  let v2758 : BitVec 32 := Scalar.addi c0_i32_3670 v2757
  v2758.toNat
def k0_dev56 (d0 : Dev nD) : Nat :=
  let c0_i32_3688 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_3687 : BitVec 32 := 1#32
  let v2767 : BitVec 32 := Scalar.muli v55 c1_i32_3687
  let v2768 : BitVec 32 := Scalar.addi c0_i32_3688 v2767
  v2768.toNat
def k0_dev57 (d0 : Dev nD) : Nat :=
  let c0_i32_3706 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_3705 : BitVec 32 := 1#32
  let v2777 : BitVec 32 := Scalar.muli v55 c1_i32_3705
  let v2778 : BitVec 32 := Scalar.addi c0_i32_3706 v2777
  v2778.toNat
def k0_dev58 (d0 : Dev nD) : Nat :=
  let c0_i32_3723 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_3722 : BitVec 32 := 1#32
  let v2787 : BitVec 32 := Scalar.muli v55 c1_i32_3722
  let v2788 : BitVec 32 := Scalar.addi c0_i32_3723 v2787
  v2788.toNat
def k0_dev59 (d0 : Dev nD) : Nat :=
  let c0_i32_4115 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4114 : BitVec 32 := 1#32
  let v3099 : BitVec 32 := Scalar.muli v42 c1_i32_4114
  let v3100 : BitVec 32 := Scalar.addi c0_i32_4115 v3099
  v3100.toNat
def k0_dev60 (d0 : Dev nD) : Nat :=
  let c0_i32_4133 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4132 : BitVec 32 := 1#32
  let v3109 : BitVec 32 := Scalar.muli v42 c1_i32_4132
  let v3110 : BitVec 32 := Scalar.addi c0_i32_4133 v3109
  v3110.toNat
def k0_dev61 (d0 : Dev nD) : Nat :=
  let c0_i32_4151 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_4150 : BitVec 32 := 1#32
  let v3119 : BitVec 32 := Scalar.muli v55 c1_i32_4150
  let v3120 : BitVec 32 := Scalar.addi c0_i32_4151 v3119
  v3120.toNat
def k0_dev62 (d0 : Dev nD) : Nat :=
  let c0_i32_4169 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_4168 : BitVec 32 := 1#32
  let v3129 : BitVec 32 := Scalar.muli v55 c1_i32_4168
  let v3130 : BitVec 32 := Scalar.addi c0_i32_4169 v3129
  v3130.toNat
def k0_dev63 (d0 : Dev nD) : Nat :=
  let c0_i32_4465 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4464 : BitVec 32 := 1#32
  let v3375 : BitVec 32 := Scalar.muli v42 c1_i32_4464
  let v3376 : BitVec 32 := Scalar.addi c0_i32_4465 v3375
  v3376.toNat
def k0_dev64 (d0 : Dev nD) : Nat :=
  let c0_i32_4483 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_4482 : BitVec 32 := 1#32
  let v3385 : BitVec 32 := Scalar.muli v55 c1_i32_4482
  let v3386 : BitVec 32 := Scalar.addi c0_i32_4483 v3385
  v3386.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x12288 : Shape := ⟨2, ![1536, 12288]⟩
abbrev S12288x1536 : Shape := ⟨2, ![12288, 1536]⟩
abbrev S1536x1536 : Shape := ⟨2, ![1536, 1536]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S1536x12288, .bf16⟩
  | .hbm, ⟨1, _⟩ => ⟨S12288x1536, .bf16⟩
  | .hbm, ⟨2, _⟩ => ⟨S1536x12288, .f32⟩
  | .hbm, ⟨3, _⟩ => ⟨S12288x1536, .f32⟩
  | .hbm, ⟨4, _⟩ => ⟨S1536x1536, .f32⟩
  | .hbm, ⟨5, _⟩ => ⟨S_, .f32⟩
  | .hbm, ⟨6, _⟩ => ⟨S1536x1536, .f32⟩
  | .hbm, ⟨7, _⟩ => ⟨S1536x1536, .f32⟩
  | .hbm, ⟨8, _⟩ => ⟨S_, .f32⟩
  | .hbm, ⟨9, _⟩ => ⟨S1536x1536, .f32⟩
  | .hbm, ⟨10, _⟩ => ⟨S1536x1536, .f32⟩
  | .hbm, ⟨11, _⟩ => ⟨S1536x1536, .f32⟩
  | .hbm, ⟨12, _⟩ => ⟨S1536x1536, .f32⟩
  | .hbm, ⟨13, _⟩ => ⟨S1536x1536, .f32⟩
  | .hbm, ⟨14, _⟩ => ⟨S_, .f32⟩
  | .hbm, ⟨15, _⟩ => ⟨S1536x1536, .f32⟩
  | .hbm, ⟨16, _⟩ => ⟨S1536x1536, .f32⟩
  | .hbm, ⟨17, _⟩ => ⟨S1536x1536, .f32⟩
  | .hbm, ⟨18, _⟩ => ⟨S_, .f32⟩
  | .hbm, ⟨19, _⟩ => ⟨S1536x1536, .f32⟩
  | .hbm, ⟨20, _⟩ => ⟨S1536x1536, .f32⟩
  | .hbm, ⟨21, _⟩ => ⟨S1536x1536, .f32⟩
  | .hbm, ⟨22, _⟩ => ⟨S1536x1536, .bf16⟩
  | _, _ => ⟨S1536x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Mesh.lean ====
/-
  The kernel as a program over a small vocabulary.

  The printed kernel is a straight line of some two thousand memory operations. This file names what
  they are made of: the four directions of the mesh, the sixty messages a device sends (and the sixty
  it receives), the slots of the scratch buffers, and twelve kinds of step. `body` is the list of the
  steps, executed; `BodyEq.lean` shows that the printed kernel is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Mesh

open Cert.KernelIdeal Cert.KernelIdeal.Gen
open Idealize.ShloMosaic Idealize.ShloMosaic.TcCoe Idealize.SL.Sem

variable {F : FTy → Type} [FloatOps F]

/-! ## Directions -/

/-- The neighbour in each of the four directions: around the plane forwards and backwards, then along
    the third axis forwards and backwards. -/
def nbr : Fin 4 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩

/-- The opposite direction. -/
def opp : Fin 4 → Fin 4
  | 0 => 1 | 1 => 0 | 2 => 3 | 3 => 2

theorem nbr_opp : ∀ (k : Fin 4) (c : Dev nD), nbr (opp k) (nbr k c) = c := by decide +kernel
theorem opp_opp : ∀ k : Fin 4, opp (opp k) = k := by decide

/-! ## Messages -/

/-- The messages a device sends: `prs d s u` is hop `s` of the plane reduction of chunk `u`,
    `zrs d t` hop `t` of the reduction along the third axis, `zag d h` hop `h` of the gathering along
    that axis, and `pag d k h` hop `h` of the gathering around the plane of chunk `k`; `d` is the
    direction, which is also the half of the columns. -/
inductive Msg
  | prs (d : Fin 2) (s : Fin 3) (u : Fin 4)
  | zrs (d : Fin 2) (t : Fin 3)
  | zag (d : Fin 2) (h : Fin 3)
  | pag (d : Fin 2) (k : Fin 4) (h : Fin 3)
  deriving DecidableEq

instance : Fintype Msg :=
  Fintype.ofEquiv ((Fin 2 × Fin 3 × Fin 4) ⊕ (Fin 2 × Fin 3) ⊕ (Fin 2 × Fin 3) ⊕ (Fin 2 × Fin 4 × Fin 3))
    { toFun := fun
        | .inl (d, s, u) => .prs d s u
        | .inr (.inl (d, t)) => .zrs d t
        | .inr (.inr (.inl (d, h))) => .zag d h
        | .inr (.inr (.inr (d, k, h))) => .pag d k h
      invFun := fun
        | .prs d s u => .inl (d, s, u)
        | .zrs d t => .inr (.inl (d, t))
        | .zag d h => .inr (.inr (.inl (d, h)))
        | .pag d k h => .inr (.inr (.inr (d, k, h)))
      left_inv := fun x => by rcases x with ⟨d, s, u⟩ | ⟨d, t⟩ | ⟨d, h⟩ | ⟨d, k, h⟩ <;> rfl
      right_inv := fun x => by cases x <;> rfl }

/-- The direction a message travels. -/
def Msg.dir : Msg → Fin 4
  | .prs d _ _ => if d = 0 then 0 else 1
  | .pag d _ _ => if d = 0 then 0 else 1
  | .zrs d _ => if d = 0 then 2 else 3
  | .zag d _ => if d = 0 then 2 else 3

/-- The device a message of device `c` goes to. -/
def tgt (m : Msg) (c : Dev nD) : Dev nD := nbr m.dir c

/-- The device the message that device `c` receives comes from. -/
def src (m : Msg) (c : Dev nD) : Dev nD := nbr (opp m.dir) c

theorem src_tgt (m : Msg) (c : Dev nD) : src m (tgt m c) = c := nbr_opp _ _
theorem tgt_src (m : Msg) (c : Dev nD) : tgt m (src m c) = c := by
  have h := nbr_opp (opp m.dir) c
  rw [opp_opp] at h
  exact h

/-! ## Slots -/

/-- The 96×768 slots of the bf16 scratch buffers: plane-reduction sends and receives, the same along
    the third axis, the two staged results, and the receives of the two gatherings. -/
inductive Slot
  | ps (d : Fin 2) (s : Fin 3) (u : Fin 4)
  | pr (d : Fin 2) (s : Fin 3) (u : Fin 4)
  | zs (d : Fin 2) (t : Fin 3)
  | zr (d : Fin 2) (t : Fin 3)
  | ag (d : Fin 2)
  | gz (d : Fin 2) (h : Fin 3)
  | gp (d : Fin 2) (k : Fin 4) (h : Fin 3)
  deriving DecidableEq

instance : Fintype Slot :=
  Fintype.ofEquiv ((Bool × Fin 2 × Fin 3 × Fin 4) ⊕ (Fin 3 × Fin 2 × Fin 3) ⊕ Fin 2 ⊕ (Fin 2 × Fin 4 × Fin 3))
    { toFun := fun
        | .inl (false, d, s, u) => .ps d s u
        | .inl (true, d, s, u) => .pr d s u
        | .inr (.inl (0, d, t)) => .zs d t
        | .inr (.inl (1, d, t)) => .zr d t
        | .inr (.inl (2, d, t)) => .gz d t
        | .inr (.inr (.inl d)) => .ag d
        | .inr (.inr (.inr (d, k, h))) => .gp d k h
      invFun := fun
        | .ps d s u => .inl (false, d, s, u)
        | .pr d s u => .inl (true, d, s, u)
        | .zs d t => .inr (.inl (0, d, t))
        | .zr d t => .inr (.inl (1, d, t))
        | .gz d t => .inr (.inl (2, d, t))
        | .ag d => .inr (.inr (.inl d))
        | .gp d k h => .inr (.inr (.inr (d, k, h)))
      left_inv := fun x => by
        rcases x with ⟨b, d, s, u⟩ | ⟨i, d, t⟩ | d | ⟨d, k, h⟩
        · cases b <;> rfl
        · fin_cases i <;> rfl
        · rfl
        · rfl
      right_inv := fun x => by cases x <;> rfl }

theorem inb5 : ∀ (d : Fin 2) (s : Fin 3) (u : Fin 4) (a : Fin 5),
    (![d.val, s.val, u.val, 0, 0] : Fin 5 → ℕ) a + S1x1x1x96x768.size a ≤ S2x3x4x96x768.size a := by decide
theorem packed5 : ∀ (d : Fin 2) (s : Fin 3) (u : Fin 4),
    (Rect.unit (s := S2x3x4x96x768) ![d.val, s.val, u.val, 0, 0] S1x1x1x96x768.size (inb5 d s u)).PackedRows (EltTy.packing .bf16) := by
  decide +kernel
theorem words5 : ∀ (d : Fin 2) (s : Fin 3) (u : Fin 4),
    (Rect.unit (s := S2x3x4x96x768) ![d.val, s.val, u.val, 0, 0] S1x1x1x96x768.size (inb5 d s u)).WholeWords (EltTy.packing .bf16) := by
  decide +kernel
theorem inb5' : ∀ (d : Fin 2) (k : Fin 4) (h : Fin 3) (a : Fin 5),
    (![d.val, k.val, h.val, 0, 0] : Fin 5 → ℕ) a + S1x1x1x96x768.size a ≤ S2x4x3x96x768.size a := by decide
theorem packed5' : ∀ (d : Fin 2) (k : Fin 4) (h : Fin 3),
    (Rect.unit (s := S2x4x3x96x768) ![d.val, k.val, h.val, 0, 0] S1x1x1x96x768.size (inb5' d k h)).PackedRows (EltTy.packing .bf16) := by
  decide +kernel
theorem words5' : ∀ (d : Fin 2) (k : Fin 4) (h : Fin 3),
    (Rect.unit (s := S2x4x3x96x768) ![d.val, k.val, h.val, 0, 0] S1x1x1x96x768.size (inb5' d k h)).WholeWords (EltTy.packing .bf16) := by
  decide +kernel
theorem inb4 : ∀ (d : Fin 2) (t : Fin 3) (a : Fin 4),
    (![d.val, t.val, 0, 0] : Fin 4 → ℕ) a + S1x1x96x768.size a ≤ S2x3x96x768.size a := by decide
theorem packed4 : ∀ (d : Fin 2) (t : Fin 3),
    (Rect.unit (s := S2x3x96x768) ![d.val, t.val, 0, 0] S1x1x96x768.size (inb4 d t)).PackedRows (EltTy.packing .bf16) := by
  decide +kernel
theorem words4 : ∀ (d : Fin 2) (t : Fin 3),
    (Rect.unit (s := S2x3x96x768) ![d.val, t.val, 0, 0] S1x1x96x768.size (inb4 d t)).WholeWords (EltTy.packing .bf16) := by
  decide +kernel
theorem inb3 : ∀ (d : Fin 2) (a : Fin 3),
    (![d.val, 0, 0] : Fin 3 → ℕ) a + S1x96x768.size a ≤ S2x96x768.size a := by decide
theorem packed3 : ∀ (d : Fin 2),
    (Rect.unit (s := S2x96x768) ![d.val, 0, 0] S1x96x768.size (inb3 d)).PackedRows (EltTy.packing .bf16) := by
  decide +kernel
theorem words3 : ∀ (d : Fin 2),
    (Rect.unit (s := S2x96x768) ![d.val, 0, 0] S1x96x768.size (inb3 d)).WholeWords (EltTy.packing .bf16) := by
  decide +kernel
theorem inbP : ∀ (d : Fin 2) (u : Fin 4) (a : Fin 4),
    (![d.val, u.val, 0, 0] : Fin 4 → ℕ) a + S1x1x96x768.size a ≤ S2x4x96x768.size a := by decide

/-- Where a slot is: its buffer, the rectangle of the buffer, and what the operations on it ask. -/
structure Place where
  S : Shape
  M : Memref sig .tc .vmem S .bf16
  whole : M.IsWhole
  off : Fin S.rank → ℕ
  size : Fin S.rank → ℕ
  inb : ∀ a, off a + size a ≤ S.size a
  sq : (⟨S.rank, size⟩ : Shape).Squeezes S96x768
  into : (⟨S.rank, size⟩ : Shape).ShapeCasts S96x768
  out : S96x768.ShapeCasts (⟨S.rank, size⟩ : Shape)
  pos : 0 < (⟨S.rank, size⟩ : Shape).numel
  packed : (Rect.unit (s := S) off size inb).PackedRows (EltTy.packing .bf16)
  words : (Rect.unit (s := S) off size inb).WholeWords (EltTy.packing .bf16)

namespace Place

/-- The rectangle. -/
abbrev rect (p : Place) : Rect p.S := Rect.unit (s := p.S) p.off p.size p.inb
/-- The slot as a memref of its own. -/
abbrev mem (p : Place) : Memref sig .tc .vmem S96x768 .bf16 := (p.M.slice p.rect (fun _ => rfl)).squeeze S96x768 p.sq

theorem exact (p : Place) : p.mem.view.WordExact :=
  (p.whole.wordExact_slice rfl _ p.words).reshape _ _

theorem stores (p : Place) : (p.M.access p.rect).Stores Finset.univ :=
  View.stores_vmem p.pos (p.whole.storeExact_slice rfl _ p.packed) (fun _ => rfl)

end Place

/-- A slot's place. -/
def place : Slot → Place
  | .ps d s u => ⟨_, Memref.whole cc0_scratch2, Memref.isWhole_whole _, ![d.val, s.val, u.val, 0, 0], S1x1x1x96x768.size, inb5 d s u,
      squeezes_S1x1x1x96x768_S96x768, shapeCasts_S1x1x1x96x768_S96x768, shapeCasts_S96x768_S1x1x1x96x768, h_S1x1x1x96x768, packed5 d s u, words5 d s u⟩
  | .pr d s u => ⟨_, Memref.whole cc0_scratch3, Memref.isWhole_whole _, ![d.val, s.val, u.val, 0, 0], S1x1x1x96x768.size, inb5 d s u,
      squeezes_S1x1x1x96x768_S96x768, shapeCasts_S1x1x1x96x768_S96x768, shapeCasts_S96x768_S1x1x1x96x768, h_S1x1x1x96x768, packed5 d s u, words5 d s u⟩
  | .zs d t => ⟨_, Memref.whole cc0_scratch4, Memref.isWhole_whole _, ![d.val, t.val, 0, 0], S1x1x96x768.size, inb4 d t,
      squeezes_S1x1x96x768_S96x768, shapeCasts_S1x1x96x768_S96x768, shapeCasts_S96x768_S1x1x96x768, h_S1x1x96x768, packed4 d t, words4 d t⟩
  | .zr d t => ⟨_, Memref.whole cc0_scratch5, Memref.isWhole_whole _, ![d.val, t.val, 0, 0], S1x1x96x768.size, inb4 d t,
      squeezes_S1x1x96x768_S96x768, shapeCasts_S1x1x96x768_S96x768, shapeCasts_S96x768_S1x1x96x768, h_S1x1x96x768, packed4 d t, words4 d t⟩
  | .ag d => ⟨_, Memref.whole cc0_scratch7, Memref.isWhole_whole _, ![d.val, 0, 0], S1x96x768.size, inb3 d,
      squeezes_S1x96x768_S96x768, by decide, shapeCasts_S96x768_S1x96x768, h_S1x96x768, packed3 d, words3 d⟩
  | .gz d h => ⟨_, Memref.whole cc0_scratch8, Memref.isWhole_whole _, ![d.val, h.val, 0, 0], S1x1x96x768.size, inb4 d h,
      squeezes_S1x1x96x768_S96x768, shapeCasts_S1x1x96x768_S96x768, shapeCasts_S96x768_S1x1x96x768, h_S1x1x96x768, packed4 d h, words4 d h⟩
  | .gp d k h => ⟨_, Memref.whole cc0_scratch9, Memref.isWhole_whole _, ![d.val, k.val, h.val, 0, 0], S1x1x1x96x768.size, inb5' d k h,
      squeezes_S1x1x1x96x768_S96x768, shapeCasts_S1x1x1x96x768_S96x768, shapeCasts_S96x768_S1x1x1x96x768, h_S1x1x1x96x768, packed5' d k h, words5' d k h⟩

/-- The slot as a memref. -/
abbrev slotM (b : Slot) : Memref sig .tc .vmem S96x768 .bf16 := (place b).mem

/-- The slot a gathering hop reads. -/
def gsrc (d : Fin 2) : ℕ → Slot
  | 0 => .ag d
  | 1 => .gz d 0
  | 2 => .gz d 1
  | _ => .gz d 2

/-- The slot a message is sent from, -/
def srcSlot : Msg → Slot
  | .prs d s u => .ps d s u
  | .zrs d t => .zs d t
  | .zag d 0 => .ag d
  | .zag d 1 => .gz d 0
  | .zag d 2 => .gz d 1
  | .pag d k 0 => gsrc d k.val
  | .pag d k 1 => .gp d k 0
  | .pag d k 2 => .gp d k 1

/-- and the slot it lands in, on the device it goes to. -/
def dstSlot : Msg → Slot
  | .prs d s u => .pr d s u
  | .zrs d t => .zr d t
  | .zag d h => .gz d h
  | .pag d k h => .gp d k h

theorem inbs3 : ∀ (d : Fin 2) (s : Fin 3) (u : Fin 4) (a : Fin 3),
    (![d.val, s.val, u.val] : Fin 3 → ℕ) a + S1x1x1.size a ≤ S2x3x4.size a := by decide
theorem inbs3' : ∀ (d : Fin 2) (s : Fin 4) (u : Fin 3) (a : Fin 3),
    (![d.val, s.val, u.val] : Fin 3 → ℕ) a + S1x1x1.size a ≤ S2x4x3.size a := by decide
theorem inbs2 : ∀ (d : Fin 2) (t : Fin 3) (a : Fin 2),
    (![d.val, t.val] : Fin 2 → ℕ) a + S1x1.size a ≤ S2x3.size a := by decide

/-- The semaphore that counts a message's departure, -/
def ssem : Msg → DmaSem sig
  | .prs d s u => ((cc0_scratch10.slice (Rect.unit (s := S2x3x4) ![d.val, s.val, u.val] S1x1x1.size (inbs3 d s u))).squeeze S_ squeezes_S1x1x1_S_).sem
  | .zrs d t => ((cc0_scratch12.slice (Rect.unit (s := S2x3) ![d.val, t.val] S1x1.size (inbs2 d t))).squeeze S_ squeezes_S1x1_S_).sem
  | .zag d t => ((cc0_scratch14.slice (Rect.unit (s := S2x3) ![d.val, t.val] S1x1.size (inbs2 d t))).squeeze S_ squeezes_S1x1_S_).sem
  | .pag d s u => ((cc0_scratch16.slice (Rect.unit (s := S2x4x3) ![d.val, s.val, u.val] S1x1x1.size (inbs3' d s u))).squeeze S_ squeezes_S1x1x1_S_).sem

/-- and the one that counts its arrival. -/
def rsem : Msg → DmaSem sig
  | .prs d s u => ((cc0_scratch11.slice (Rect.unit (s := S2x3x4) ![d.val, s.val, u.val] S1x1x1.size (inbs3 d s u))).squeeze S_ squeezes_S1x1x1_S_).sem
  | .zrs d t => ((cc0_scratch13.slice (Rect.unit (s := S2x3) ![d.val, t.val] S1x1.size (inbs2 d t))).squeeze S_ squeezes_S1x1_S_).sem
  | .zag d t => ((cc0_scratch15.slice (Rect.unit (s := S2x3) ![d.val, t.val] S1x1.size (inbs2 d t))).squeeze S_ squeezes_S1x1_S_).sem
  | .pag d s u => ((cc0_scratch17.slice (Rect.unit (s := S2x4x3) ![d.val, s.val, u.val] S1x1x1.size (inbs3' d s u))).squeeze S_ squeezes_S1x1x1_S_).sem

/-! ## Rows of the operand and of the result -/

/-- The row of the first operand's block a first hop's chunk starts at, -/
def ownOff (c : Dev nD) (d : Fin 2) (u : Fin 4) : Fin 2 → ℕ :=
  match d with
  | 0 => k0_off1 c (BitVec.ofNat 32 u.val)
  | 1 => k0_off2 c (BitVec.ofNat 32 u.val)
theorem ownOff_inb (c : Dev nD) (d : Fin 2) (u : Fin 4) : ∀ a, ownOff c d u a + S96x768.size a ≤ S1536x768.size a :=
  match d with
  | 0 => k0_off1_inb c u
  | 1 => k0_off2_inb c u

/-- and the row of the chunk added on receiving hop `s`. -/
def locOff (c : Dev nD) (d : Fin 2) (s : Fin 3) (u : Fin 4) : Fin 2 → ℕ :=
  match d with
  | 0 => k0_off3 c (BitVec.ofNat 32 s.val) (BitVec.ofNat 32 u.val)
  | 1 => k0_off4 c (BitVec.ofNat 32 s.val) (BitVec.ofNat 32 u.val)
theorem locOff_inb (c : Dev nD) (d : Fin 2) (s : Fin 3) (u : Fin 4) : ∀ a, locOff c d s u a + S96x768.size a ≤ S1536x768.size a :=
  match d with
  | 0 => k0_off3_inb c s u
  | 1 => k0_off4_inb c s u

/-- The columns of the second operand's block that direction `d` handles. -/
theorem inbB : ∀ (d : Fin 2) (a : Fin 2), (![0, 768 * d.val] : Fin 2 → ℕ) a + S768x768.size a ≤ S768x1536.size a := by decide

/-- The blocks of the result: a device's own, those the third axis brings, and those the plane brings. -/
inductive Blk
  | own (d : Fin 2)
  | z (d : Fin 2) (h : Fin 3)
  | p (d : Fin 2) (k : Fin 4) (h : Fin 3)
  deriving DecidableEq

/-- Where a block of the result starts. -/
def outOff (c : Dev nD) : Blk → Fin 2 → ℕ
  | .own 0 => k0_off5 c
  | .own 1 => k0_off6 c
  | .z 0 h => k0_off7 c (BitVec.ofNat 32 (1 + h.val))
  | .z 1 h => k0_off8 c (BitVec.ofNat 32 (1 + h.val))
  | .p 0 k h => k0_off9 c (BitVec.ofNat 32 h.val) (BitVec.ofNat 32 k.val)
  | .p 1 k h => k0_off10 c (BitVec.ofNat 32 h.val) (BitVec.ofNat 32 k.val)

theorem outOff_inb (c : Dev nD) : ∀ (b : Blk) (a : Fin 2), outOff c b a + S96x768.size a ≤ S1536x1536.size a
  | .own 0 => k0_off5_inb c
  | .own 1 => k0_off6_inb c
  | .z 0 h => k0_off7_inb c h
  | .z 1 h => k0_off8_inb c h
  | .p 0 k h => k0_off9_inb c h k
  | .p 1 k h => k0_off10_inb c h k

theorem outOff_packed (c : Dev nD) : ∀ b : Blk,
    (Rect.unit (s := S1536x1536) (outOff c b) S96x768.size (outOff_inb c b)).PackedRows (EltTy.packing .bf16)
  | .own 0 => k0_off5_packedbf16 c
  | .own 1 => k0_off6_packedbf16 c
  | .z 0 h => k0_off7_packedbf16 c h
  | .z 1 h => k0_off8_packedbf16 c h
  | .p 0 k h => k0_off9_packedbf16 c h k
  | .p 1 k h => k0_off10_packedbf16 c h k

/-- A block's rectangle of the result. -/
abbrev outRect (c : Dev nD) (b : Blk) : Rect S1536x1536 :=
  Rect.unit (s := S1536x1536) (outOff c b) S96x768.size (outOff_inb c b)

/-! ## Steps -/

/-- The steps a device takes. `own` writes a first message, `send` starts a message, `loc` computes
    the chunk a receive will be added to, `await` waits for a message's departure and for the arrival
    of the one received, `red` and `fin` add an arrival (to forward it, or at the plane's last hop),
    `zred` and `zfin` do so along the third axis, `gelu` applies the nonlinearity and stages the
    result, and `flz` and `flp` copy an arrived block to the result. -/
inductive Op
  | own (d : Fin 2) (u : Fin 4)
  | send (m : Msg)
  | loc (d : Fin 2) (s : Fin 3) (u : Fin 4)
  | await (m : Msg)
  | red (d : Fin 2) (s : Fin 2) (u : Fin 4)
  | fin (d : Fin 2) (u : Fin 4)
  | zred (d : Fin 2) (t : Fin 2)
  | zfin (d : Fin 2)
  | gelu
  | flz (d : Fin 2) (h : Fin 3)
  | flp (d : Fin 2) (k : Fin 4) (h : Fin 3)

variable (F) in
/-- A program of a device's core. -/
abbrev Pr := Prog (TpuEff nD τ sig (Elt F) Λ₀ .tc) PUnit

/-- Load a slot. -/
def ld (b : Slot) (k : (S96x768.Idx → Elt F .bf16) → Pr F) : Pr F :=
  .op (.load (place b).M (place b).rect.toLoadRect (View.loadsAt_vmem (place b).pos))
    fun v => k (shapeCast S96x768 v (place b).into)

/-- Store to a slot (the access is preceded by a load whose result is not used). -/
def st (b : Slot) (w : S96x768.Idx → Elt F .bf16) (k : Pr F) : Pr F :=
  .op (.load (place b).M (place b).rect.toLoadRect (View.loadsAt_vmem (place b).pos))
    fun _ => .op (.store (place b).M (place b).rect (shapeCast _ w (place b).out) Finset.univ (place b).stores (.inl rfl))
      fun _ => k

/-- The rectangle of the plane's sums that holds chunk `u` of half `d`. -/
abbrev predRect (d : Fin 2) (u : Fin 4) : Rect S2x4x96x768 :=
  Rect.unit (s := S2x4x96x768) ![d.val, u.val, 0, 0] S1x1x96x768.size (inbP d u)

/-- Load one of the plane's sums. -/
def ldPred (d : Fin 2) (u : Fin 4) (k : FVec F S96x768 .f32 → Pr F) : Pr F :=
  .op (.load (Memref.whole cc0_scratch6) (predRect d u).toLoadRect (View.loadsAt_vmem h_S1x1x96x768))
    fun v => k (shapeCast S96x768 v shapeCasts_S1x1x96x768_S96x768)

/-- Store one of them. -/
def stPred (d : Fin 2) (u : Fin 4) (w : FVec F S96x768 .f32) (k : Pr F) : Pr F :=
  .op (.load (Memref.whole cc0_scratch6) (predRect d u).toLoadRect (View.loadsAt_vmem h_S1x1x96x768))
    fun _ => .op (.store (Memref.whole cc0_scratch6) (predRect d u) (shapeCast S1x1x96x768 w shapeCasts_S96x768_S1x1x96x768) Finset.univ
        (View.stores_vmem_bits_univ h_S1x1x96x768 rfl) (.inl rfl))
      fun _ => k

/-- Store a block of the result. -/
def stOut (c : Dev nD) (b : Blk) (w : S96x768.Idx → Elt F .bf16) (k : Pr F) : Pr F :=
  .op (.load (Memref.whole cc0_stg2_0) (outRect c b).toLoadRect (View.loadsAt_vmem h_S96x768))
    fun _ => .op (.store (Memref.whole cc0_stg2_0) (outRect c b) w Finset.univ
        (View.stores_vmem h_S96x768 ((Memref.isWhole_whole _).storeExact_slice rfl _ (outOff_packed c b)) (fun _ => rfl)) (.inl rfl))
      fun _ => k

/-- The product of a chunk of rows with a half of the columns. -/
def dotv (x : FVec F S96x768 .bf16) (y : FVec F S768x768 .bf16) : FVec F S96x768 .f32 :=
  matmul dot_S96x768_S768x768_S96x768_1_0_0_1_n_n none x y (constant S96x768 .f32 0x00000000#32)

/-- Load a chunk's operands and multiply. -/
def ldDot (off : Fin 2 → ℕ) (inb : ∀ a, off a + S96x768.size a ≤ S1536x768.size a) (d : Fin 2) (k : FVec F S96x768 .f32 → Pr F) : Pr F :=
  .op (.load (Memref.whole cc0_scratch1 : Memref sig .tc .vmem S768x1536 .bf16) (Rect.unit (s := S768x1536) ![0, 768 * d.val] S768x768.size (inbB d)).toLoadRect (View.loadsAt_vmem h_S768x768))
    fun (y : S768x768.Idx → Elt F .bf16) => .op (.load (Memref.whole cc0_scratch0 : Memref sig .tc .vmem S1536x768 .bf16) (Rect.unit (s := S1536x768) off S96x768.size inb).toLoadRect (View.loadsAt_vmem h_S96x768))
      fun (x : S96x768.Idx → Elt F .bf16) => k (dotv x y)

/-- Round to bf16. -/
abbrev rnd (x : FVec F S96x768 .f32) : FVec F S96x768 .bf16 := truncf .bf16 x bitsLt_bf16_f32
/-- Extend to f32. -/
abbrev ext (x : FVec F S96x768 .bf16) : FVec F S96x768 .f32 := extf .f32 x bitsLt_bf16_f32

/-- The nonlinearity. -/
def geluv (x : FVec F S96x768 .f32) : FVec F S96x768 .f32 :=
  mulf (mulf (constant S96x768 .f32 0x3F000000#32) x)
    (addf (constant S96x768 .f32 0x3F800000#32)
      (tanh (mulf (constant S96x768 .f32 0x3F4C422A#32)
        (addf x (mulf (mulf (mulf (constant S96x768 .f32 0x3D372713#32) x) x) x)))))

/-- Start a message. -/
def start (c : Dev nD) (m : Msg) (k : Pr F) : Pr F :=
  .op (.enqueueDma (slotM (srcSlot m)) (.remote (Dev.tc (tgt m c)) (slotM (dstSlot m)) (.dma (ssem m))) (.dma (rsem m))
    (place (srcSlot m)).exact (place (dstSlot m)).exact ⟨⟨rfl, Or.inl rfl⟩, trivial⟩) fun _ => k

/-- Wait for a message's departure and for the arrival of the one received. -/
def waits (m : Msg) (k : Pr F) : Pr F :=
  .op (.waitDma2 (ssem m) (slotM (dstSlot m)) (slotM (srcSlot m)) (place (dstSlot m)).exact (place (srcSlot m)).exact) fun _ =>
  .op (.waitDma2 (rsem m) (slotM (srcSlot m)) (slotM (dstSlot m)) (place (srcSlot m)).exact (place (dstSlot m)).exact) fun _ => k

/-- Execute steps; `q` are the values computed and not yet used, oldest first. -/
def exec (c : Dev nD) : List Op → List (FVec F S96x768 .f32) → Pr F
  | [], _ => .ret ⟨⟩
  | .own d u :: l, q => ldDot (ownOff c d u) (ownOff_inb c d u) d fun v => st (.ps d 0 u) (rnd v) (exec c l q)
  | .send m :: l, q => start c m (exec c l q)
  | .loc d s u :: l, q => ldDot (locOff c d s u) (locOff_inb c d s u) d fun v => exec c l (q ++ [v])
  | .await m :: l, q => waits m (exec c l q)
  | .red d s u :: l, v :: q => ld (.pr d s.castSucc u) fun x => st (.ps d s.succ u) (rnd (addf v (ext x))) (exec c l q)
  | .fin d u :: l, v :: q => ld (.pr d 2 u) fun x => stPred d u (addf v (ext x))
      (if u = 0 then st (.zs d 0) (rnd (addf v (ext x))) (exec c l q) else exec c l q)
  | .zred d t :: l, q => ldPred d t.castSucc.succ fun v => ld (.zr d t.castSucc) fun x => st (.zs d t.succ) (rnd (addf v (ext x))) (exec c l q)
  | .zfin d :: l, q => ldPred d 3 fun v => ld (.zr d 2) fun x => exec c l (q ++ [addf v (ext x)])
  | .gelu :: l, v :: w :: q =>
      stOut c (.own 0) (rnd (geluv v)) (stOut c (.own 1) (rnd (geluv w))
        (st (.ag 0) (rnd (geluv v)) (st (.ag 1) (rnd (geluv w)) (exec c l q))))
  | .flz d h :: l, q => ld (.gz d h) fun x => stOut c (.z d h) x (exec c l q)
  | .flp d k h :: l, q => ld (.gp d k h) fun x => stOut c (.p d k h) x (exec c l q)
  | .red _ _ _ :: _, [] => .ret ⟨⟩
  | .fin _ _ :: _, [] => .ret ⟨⟩
  | .gelu :: _, [] => .ret ⟨⟩
  | .gelu :: _, [_] => .ret ⟨⟩

/-! ## The list of steps -/

/-- The plane-reduction messages of round `R`, -/
def prsRound (R : ℕ) : List Msg :=
  [0, 1].flatMap fun d => [0, 1, 2, 3].filterMap fun u : Fin 4 =>
    if h : u.val ≤ R ∧ R - u.val < 3 then some (.prs d ⟨R - u.val, h.2⟩ u) else none
/-- the reduction messages along the third axis of that round, -/
def zrsRound (R : ℕ) : List Msg :=
  if h : 3 ≤ R ∧ R - 3 < 3 then [.zrs 0 ⟨R - 3, h.2⟩, .zrs 1 ⟨R - 3, h.2⟩] else []
/-- and the gathering messages of a round. -/
def agRound (R : ℕ) : List Msg :=
  (if h : R < 3 then [.zag 0 ⟨R, h⟩, .zag 1 ⟨R, h⟩] else []) ++
  [0, 1].flatMap fun d => [0, 1, 2, 3].filterMap fun k : Fin 4 =>
    if h : k.val ≤ R ∧ R - k.val < 3 then some (.pag d k ⟨R - k.val, h.2⟩) else none

/-- Whether a message is started in its round (the first hops were started before). -/
def late : Msg → Bool
  | .prs _ s _ => s ≠ 0
  | _ => true

/-- What follows the wait for a message. -/
def use : Msg → Op
  | .prs d 0 u => .red d 0 u
  | .prs d 1 u => .red d 1 u
  | .prs d 2 u => .fin d u
  | .zrs d 0 => .zred d 0
  | .zrs d 1 => .zred d 1
  | .zrs d 2 => .zfin d
  | .zag d h => .flz d h
  | .pag d k h => .flp d k h

/-- The chunk a plane-reduction message is added to. -/
def locOf : Msg → List Op
  | .prs d s u => [.loc d s u]
  | _ => []

/-- A round of the reductions. -/
def rsOps (R : ℕ) : List Op :=
  let ms := prsRound R ++ zrsRound R
  (ms.filter late).map .send ++ ms.flatMap locOf ++ ms.flatMap fun m => [.await m, use m]

/-- A round of the gatherings: the arrivals of the round before are copied while this one's travel. -/
def agOps (R : ℕ) : List Op :=
  (agRound R).map .send ++ (match R with | 0 => [] | R' + 1 => (agRound R').map use) ++ (agRound R).map .await

/-- All the steps. -/
def ops : List Op :=
  ([0, 1, 2, 3].flatMap fun u : Fin 4 => [0, 1].flatMap fun d : Fin 2 => [.own d u, .send (.prs d 0 u)])
  ++ [0, 1, 2, 3, 4, 5].flatMap rsOps ++ [.gelu] ++ [0, 1, 2, 3, 4, 5].flatMap agOps ++ (agRound 5).map use

/-- The barrier semaphore. -/
def barSem : Sem sig := (SemArray.scalar (sig.barrier 0 rfl) : Sems sig S_).sem

/-- Copy a whole operand block to scratch. -/
def fillA (k : Pr F) : Pr F :=
  .op (.load (Memref.whole cc0_stg0_0) (Rect.unit (s := S1536x768) ![0, 0] S1536x768.size inb_S1536x768_S1536x768_0_0).toLoadRect (View.loadsAt_vmem h_S1536x768))
    fun v => .op (.load (Memref.whole cc0_scratch0 : Memref sig .tc .vmem S1536x768 .bf16) (Rect.unit (s := S1536x768) ![0, 0] S1536x768.size inb_S1536x768_S1536x768_0_0).toLoadRect (View.loadsAt_vmem h_S1536x768))
      fun _ => .op (.store (Memref.whole cc0_scratch0) (Rect.unit (s := S1536x768) ![0, 0] S1536x768.size inb_S1536x768_S1536x768_0_0) (k0_pay2 v) Finset.univ
        (View.stores_vmem h_S1536x768 ((Memref.isWhole_whole _).storeExact_slice rfl _ packedbf16_S1536x768_S1536x768_0_0) (fun _ => rfl)) (.inl rfl)) fun _ => k

/-- The same of the second operand. -/
def fillB (k : Pr F) : Pr F :=
  .op (.load (Memref.whole cc0_stg1_0) (Rect.unit (s := S768x1536) ![0, 0] S768x1536.size inb_S768x1536_S768x1536_0_0).toLoadRect (View.loadsAt_vmem h_S768x1536))
    fun v => .op (.load (Memref.whole cc0_scratch1 : Memref sig .tc .vmem S768x1536 .bf16) (Rect.unit (s := S768x1536) ![0, 0] S768x1536.size inb_S768x1536_S768x1536_0_0).toLoadRect (View.loadsAt_vmem h_S768x1536))
      fun _ => .op (.store (Memref.whole cc0_scratch1 : Memref sig .tc .vmem S768x1536 .bf16) (Rect.unit (s := S768x1536) ![0, 0] S768x1536.size inb_S768x1536_S768x1536_0_0) (k0_pay3 v) Finset.univ
        (View.stores_vmem h_S768x1536 ((Memref.isWhole_whole _).storeExact_slice rfl _ packedbf16_S768x1536_S768x1536_0_0) (fun _ => rfl)) (.inl rfl)) fun _ => k

/-- Signal a neighbour's barrier. -/
def sig1 (c : Dev nD) (j : Fin 4) (k : Pr F) : Pr F :=
  .op (.semSignal (Dev.tc (nbr j c)) barSem 1) fun _ => k

/-- The kernel's body. -/
def body : Pr F :=
  .op .deviceId fun c => fillA (fillB (sig1 c 0 (sig1 c 1 (sig1 c 2 (sig1 c 3
    (.op (.semWait barSem 4) fun _ => exec c ops []))))))

end Cert.KernelIdeal.Mesh
-- ==== Proof.Content.lean ====
/-
  What every slot holds, over any float values: the algorithm's intermediate results as functions of the
  devices' operand blocks.
-/
module

public import proofs.«01_k».proof.Proof.Mesh

@[expose] public section

noncomputable section

namespace Cert.KernelIdeal.Mesh

open Cert.KernelIdeal Cert.KernelIdeal.Gen
open Idealize.ShloMosaic Idealize.ShloMosaic.TcCoe Idealize.SL.Sem

variable {F : FTy → Type} [FloatOps F]

/-- The device a plane message of half `d` comes from, and one along the third axis. -/
def psrc (d : Fin 2) (c : Dev nD) : Dev nD := nbr (opp (if d = 0 then 0 else 1)) c
def zsrc (d : Fin 2) (c : Dev nD) : Dev nD := nbr (opp (if d = 0 then 2 else 3)) c

/-- The rows of the first operand's block at an offset, -/
def rowsAt (x : S1536x768.Idx → Elt F .bf16) (off : Fin 2 → ℕ) (inb : ∀ a, off a + S96x768.size a ≤ S1536x768.size a) : S96x768.Idx → Elt F .bf16 :=
  (Memref.whole cc0_scratch0 : Memref sig .tc .vmem S1536x768 .bf16).view.readAt (Elt F) (Rect.unit (s := S1536x768) off S96x768.size inb).toLoadRect x

/-- and half the columns of the second's. -/
def colsAt (y : S768x1536.Idx → Elt F .bf16) (d : Fin 2) : S768x768.Idx → Elt F .bf16 :=
  (Memref.whole cc0_scratch1 : Memref sig .tc .vmem S768x1536 .bf16).view.readAt (Elt F) (Rect.unit (s := S768x1536) ![0, 768 * d.val] S768x768.size (inbB d)).toLoadRect y

variable (xa : Dev nD → S1536x768.Idx → Elt F .bf16) (xb : Dev nD → S768x1536.Idx → Elt F .bf16)

/-- The device's part of the chunk it sends first, -/
def ownv (d : Fin 2) (u : Fin 4) (c : Dev nD) : FVec F S96x768 .f32 :=
  dotv (rowsAt (xa c) (ownOff c d u) (ownOff_inb c d u)) (colsAt (xb c) d)
/-- and of the chunk it adds to hop `s`. -/
def locv (d : Fin 2) (s : Fin 3) (u : Fin 4) (c : Dev nD) : FVec F S96x768 .f32 :=
  dotv (rowsAt (xa c) (locOff c d s u) (locOff_inb c d s u)) (colsAt (xb c) d)

/-- What hop `s` of the plane reduction sends. -/
def psv (d : Fin 2) (u : Fin 4) : ℕ → Dev nD → S96x768.Idx → Elt F .bf16
  | 0, c => rnd (ownv xa xb d u c)
  | s + 1, c => rnd (addf (locv xa xb d (Fin.ofNat 3 s) u c) (ext (psv d u s (psrc d c))))

/-- The plane's sum of a chunk. -/
def predv (d : Fin 2) (u : Fin 4) (c : Dev nD) : FVec F S96x768 .f32 :=
  addf (locv xa xb d 2 u c) (ext (psv xa xb d u 2 (psrc d c)))

/-- What hop `t` of the reduction along the third axis sends. -/
def zsv (d : Fin 2) : ℕ → Dev nD → S96x768.Idx → Elt F .bf16
  | 0, c => rnd (predv xa xb d 0 c)
  | t + 1, c => rnd (addf (predv xa xb d (Fin.ofNat 4 (t + 1)) c) (ext (zsv d t (zsrc d c))))

/-- The whole sum of the device's chunk, -/
def zfinv (d : Fin 2) (c : Dev nD) : FVec F S96x768 .f32 :=
  addf (predv xa xb d 3 c) (ext (zsv xa xb d 2 (zsrc d c)))

/-- and the device's block of the result. -/
def gbv (d : Fin 2) (c : Dev nD) : S96x768.Idx → Elt F .bf16 := rnd (geluv (zfinv xa xb d c))

/-- The device whose block hop `h` of the gathering along the third axis brings: `h` devices back. -/
def zback (d : Fin 2) : ℕ → Dev nD → Dev nD
  | 0, c => c
  | h + 1, c => zback d h (zsrc d c)
/-- The same around the plane. -/
def pback (d : Fin 2) : ℕ → Dev nD → Dev nD
  | 0, c => c
  | h + 1, c => pback d h (psrc d c)

/-- What a slot holds once it is written. -/
def slotv : Slot → Dev nD → S96x768.Idx → Elt F .bf16
  | .ps d s u, c => psv xa xb d u s.val c
  | .pr d s u, c => psv xa xb d u s.val (psrc d c)
  | .zs d t, c => zsv xa xb d t.val c
  | .zr d t, c => zsv xa xb d t.val (zsrc d c)
  | .ag d, c => gbv xa xb d c
  | .gz d h, c => gbv xa xb d (zback d (h.val + 1) c)
  | .gp d k h, c => gbv xa xb d (zback d k.val (pback d (h.val + 1) c))

/-- A message delivers what its source holds. -/
theorem slotv_dst (m : Msg) (c : Dev nD) : slotv xa xb (dstSlot m) c = slotv xa xb (srcSlot m) (src m c) := by
  cases m with
  | prs d s u => rfl
  | zrs d t => rfl
  | zag d h => fin_cases h <;> rfl
  | pag d k h => fin_cases h <;> fin_cases k <;> rfl

/-- A block of the result, by where it comes from. -/
def blkDev : Blk → Dev nD → Dev nD
  | .own _, c => c
  | .z d h, c => zback d (h.val + 1) c
  | .p d k h, c => zback d k.val (pback d (h.val + 1) c)
def blkHalf : Blk → Fin 2
  | .own d => d
  | .z d _ => d
  | .p d _ _ => d
def blkv (b : Blk) (c : Dev nD) : S96x768.Idx → Elt F .bf16 := gbv xa xb (blkHalf b) (blkDev b c)

/-- The block row of the result a device computes. -/
def rowBlk (d : Fin 2) (c : Dev nD) : ℕ := outOff c (.own d) 0 / 96

theorem outOff_eq : ∀ (c : Dev nD) (d : Fin 2) , outOff c (.own d) = ![96 * rowBlk d c, 768 * d.val] := by decide +kernel
theorem outOff_z : ∀ (c : Dev nD) (d : Fin 2) (h : Fin 3), outOff c (.z d h) = ![96 * rowBlk d (zback d (h.val + 1) c), 768 * d.val] := by decide +kernel
theorem outOff_p : ∀ (c : Dev nD) (d : Fin 2) (k : Fin 4) (h : Fin 3),
    outOff c (.p d k h) = ![96 * rowBlk d (zback d k.val (pback d (h.val + 1) c)), 768 * d.val] := by decide +kernel
theorem outOff_blk (c : Dev nD) : ∀ b : Blk, outOff c b = ![96 * rowBlk (blkHalf b) (blkDev b c), 768 * (blkHalf b).val]
  | .own d => outOff_eq c d
  | .z d h => outOff_z c d h
  | .p d k h => outOff_p c d k h

/-- Every block row is some device's, for each half, and every device's block is brought to every device. -/
theorem rowBlk_surj : ∀ (d : Fin 2) (r : Fin 16), ∃ c : Dev nD, rowBlk d c = r.val := by decide +kernel
theorem rowBlk_inj : ∀ (d : Fin 2) (c c' : Dev nD), rowBlk d c = rowBlk d c' → c = c' := by decide +kernel
theorem rowBlk_lt : ∀ (d : Fin 2) (c : Dev nD), rowBlk d c < 16 := by decide +kernel

end Cert.KernelIdeal.Mesh
-- ==== Proof.Sched.lean ====
/-
  The cells of the protocol and their schedule: who pays what into which semaphore, what comes with it, what
  each device owes, and why no wait can be circular.
-/
module

public import proofs.«01_k».proof.Proof.Content

@[expose] public section

noncomputable section

namespace Cert.KernelIdeal.Mesh

open Cert.KernelIdeal Cert.KernelIdeal.Gen
open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A device's cells: the barrier, and a departure and an arrival for each message. -/
abbrev CIx := Option (Bool × Msg)

def csem : CIx → SemLoc sig
  | none => .reg barSem
  | some (false, m) => .dma (ssem m)
  | some (true, m) => .dma (rsem m)

abbrev barCell (c : Dev nD) : GSem nD τ sig := ((c : Thread nD τ), .reg barSem)
abbrev sendCell (c : Dev nD) (m : Msg) : GSem nD τ sig := ((c : Thread nD τ), .dma (ssem m))
abbrev recvCell (c : Dev nD) (m : Msg) : GSem nD τ sig := ((c : Thread nD τ), .dma (rsem m))
abbrev kcell (ck : Dev nD × CIx) : GSem nD τ sig := ((ck.1 : Thread nD τ), csem ck.2)

/-- A number for each departure and arrival, from which it can be told. -/
def semNum (x : Bool × Msg) : ℕ := ((if x.1 then rsem x.2 else ssem x.2) : DmaSem sig).val

def msgList : List Msg :=
  (List.finRange 2).flatMap (fun d => (List.finRange 3).flatMap fun s => (List.finRange 4).map fun u => .prs d s u) ++
  (List.finRange 2).flatMap (fun d => (List.finRange 3).map fun s => .zrs d s) ++
  (List.finRange 2).flatMap (fun d => (List.finRange 3).map fun s => .zag d s) ++
  (List.finRange 2).flatMap (fun d => (List.finRange 4).flatMap fun s => (List.finRange 3).map fun u => .pag d s u)

/-- All departures and arrivals. -/
def xferList : List (Bool × Msg) := msgList.map (false, ·) ++ msgList.map (true, ·)

theorem mem_xferList : ∀ x : Bool × Msg, x ∈ xferList := by decide +kernel

theorem xferList_univ : (Finset.univ : Finset (Bool × Msg)) = xferList.toFinset :=
  (Finset.eq_univ_iff_forall.mpr fun x => List.mem_toFinset.mpr (mem_xferList x)).symm

theorem semNum_pairwise : (xferList.map semNum).Nodup := by decide +kernel

theorem semNum_injective : Function.Injective semNum := fun x y h =>
  List.inj_on_of_nodup_map semNum_pairwise (mem_xferList x) (mem_xferList y) h

theorem csem_injective : Function.Injective csem := by
  have key : ∀ x y : Bool × Msg, csem (some x) = csem (some y) → x = y := by
    rintro ⟨b, m⟩ ⟨b', m'⟩ h
    refine semNum_injective ?_
    unfold semNum
    cases b <;> cases b' <;> (simp only [csem, SemLoc.dma.injEq] at h; simp [h])
  rintro (_ | x) (_ | y) h
  · rfl
  · rcases y with ⟨_ | _, m⟩ <;> cases h
  · rcases x with ⟨_ | _, m⟩ <;> cases h
  · rw [key x y h]

/-- The cell a semaphore is, if it is one of the protocol's. -/
def ixOf (s : SemLoc sig) : Option CIx :=
  open Classical in if h : ∃ ix, csem ix = s then some h.choose else none

theorem ixOf_csem (ix : CIx) : ixOf (csem ix) = some ix := by
  have h : ∃ jx, csem jx = csem ix := ⟨ix, rfl⟩
  unfold ixOf
  rw [dif_pos h, csem_injective h.choose_spec]

theorem ixOf_bar : ixOf (.reg barSem) = some none := ixOf_csem none
theorem ixOf_send (m : Msg) : ixOf (.dma (ssem m)) = some (some (false, m)) := ixOf_csem (some (false, m))
theorem ixOf_recv (m : Msg) : ixOf (.dma (rsem m)) = some (some (true, m)) := ixOf_csem (some (true, m))

theorem ixOf_some {s : SemLoc sig} {ix : CIx} (h : ixOf s = some ix) : csem ix = s := by
  unfold ixOf at h
  by_cases h' : ∃ jx, csem jx = s
  · rw [dif_pos h', Option.some.injEq] at h; rw [← h]; exact h'.choose_spec
  · rw [dif_neg h'] at h; cases h

theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- What one message counts. -/
def N : ℕ := (slotM (.ag 0)).view.dmaCredit
theorem credit_eq (b : Slot) : (slotM b).view.dmaCredit = N := by cases b <;> rfl
theorem N_pos : 0 < N := View.dmaCredit_pos _ (by decide)

/-! ## Slots as resources -/

variable (m : (ℓ : Loc nD τ sig) → Buf (Elt F) ℓ)

/-- The devices' operand blocks. -/
def xa (c : Dev nD) : S1536x768.Idx → Elt F .bf16 := (win0_0.blk (0 : Fin 1)).view.read (Elt F) (m ((c : Thread nD τ).loc main_arg0))
def xb (c : Dev nD) : S768x1536.Idx → Elt F .bf16 := (win0_1.blk (0 : Fin 1)).view.read (Elt F) (m ((c : Thread nD τ).loc main_arg1))

/-- What a slot holds once it is written. -/
abbrev sval (b : Slot) (c : Dev nD) : S96x768.Idx → Elt F .bf16 := slotv (xa m) (xb m) b c

/-- The buffer a slot is in, holding in the slot what the slot holds once it is written. -/
def slotBuf (c : Dev nD) (b : Slot) : Buf (Elt F) ((slotM b).view.loc (c : Thread nD τ)) :=
  (slotM b).view.write (Elt F) (m ((slotM b).view.loc (c : Thread nD τ))) (sval m b c) Finset.univ

/-- A share of a slot, with the buffer's contents. -/
def slotAt (c : Dev nD) (b : Slot) (q : PosShare TreeShare) (f : Buf (Elt F) ((slotM b).view.loc (c : Thread nD τ))) : sProp 𝕄 :=
  (slotM b).view.loc (c : Thread nD τ) ↦[(slotM b).view.set]{q} f

/-- A share of a written slot, -/
def slotPts (c : Dev nD) (b : Slot) (q : PosShare TreeShare) : sProp 𝕄 := slotAt c b q (slotBuf m c b)
/-- and a slot whatever it holds. -/
def slotFree (c : Dev nD) (b : Slot) : sProp 𝕄 := iprop(∃ f, slotAt c b fullShare f)

omit [FloatOps F] in
instance slotAt_storable (c : Dev nD) (b : Slot) (q f) : BI.Storable (upEmb : UEmb _ 𝕄) (slotAt (F := F) c b q f) := by unfold slotAt; infer_instance
instance slotPts_storable (c : Dev nD) (b : Slot) (q) : BI.Storable (upEmb : UEmb _ 𝕄) (slotPts (F := F) m c b q) := by unfold slotPts; infer_instance
omit [FloatOps F] in
instance slotFree_storable (c : Dev nD) (b : Slot) : BI.Storable (upEmb : UEmb _ 𝕄) (slotFree (F := F) c b) := by unfold slotFree; infer_instance

/-- A written slot is held in three shares: two messages can read it at once, and the core still loads from it. -/
def piece : Fin 3 → PosShare TreeShare
  | 0 => fullShare.left
  | 1 => fullShare.right.left
  | 2 => fullShare.right.right

/-- The share a message reads its source with. -/
def shr : Msg → Fin 3
  | .pag _ _ 0 => 1
  | _ => 0

/-- Writing a slot leaves in it what was written, whatever the buffer held. -/
theorem slotAt_write (c : Dev nD) (b : Slot) (q : PosShare TreeShare) (f : Buf (Elt F) ((slotM b).view.loc (c : Thread nD τ)))
    (w : S96x768.Idx → Elt F .bf16) (h : w = sval m b c) :
    slotAt c b q ((slotM b).view.write (Elt F) f w Finset.univ) = slotPts m c b q := by
  subst h
  exact View.pointsTo_write_univ_congr (c : Thread nD τ) (slotM b).view q f _ _

/-- Reading a written slot gives what it holds. -/
theorem read_slotBuf (c : Dev nD) (b : Slot) : (slotM b).view.read (Elt F) (slotBuf m c b) = sval m b c :=
  View.read_write_univ _ _

/-! ## The schedule -/

/-- What a neighbour's signal brings: the slots there that this device's messages that way land in. -/
def barPay (c : Dev nD) (j : Fin 4) : sProp 𝕄 :=
  bigSep (Finset.univ.filter fun x : Msg => x.dir = opp j) fun x => slotFree (tgt x c) (dstSlot x)

omit [FloatOps F] in
instance barPay_storable (c : Dev nD) (j : Fin 4) : BI.Storable (upEmb : UEmb _ 𝕄) (barPay (F := F) c j) := by unfold barPay; infer_instance

def payOf (c : Dev nD) : Option CIx → Fin 4 → sProp 𝕄
  | some none, j => barPay c j
  | some (some (false, x)), _ => slotPts m c (srcSlot x) (piece (shr x))
  | some (some (true, x)), _ => slotPts m c (dstSlot x) fullShare
  | none, _ => iprop(emp)

instance payOf_storable (c : Dev nD) : ∀ (o : Option CIx) (j : Fin 4), BI.Storable (upEmb : UEmb _ 𝕄) (payOf (F := F) m c o j)
  | some none, j => barPay_storable c j
  | some (some (false, _)), _ => slotPts_storable m c _ _
  | some (some (true, _)), _ => slotPts_storable m c _ _
  | none, _ => by unfold payOf; infer_instance

def amtOf : Option CIx → ℕ
  | some none => 1
  | _ => N
def dutOf : Option CIx → Finset (Fin 4)
  | some none => Finset.univ
  | some (some _) => {0}
  | none => ∅

/-- One round. A barrier is signalled once by each neighbour; a departure and an arrival are one message each. -/
def sched : Rounds.Schedule (GSem nD τ sig) (Fin 4) 𝕄 where
  duties g r := if r = 0 ∧ g.1.2 = .tc then dutOf (ixOf g.2) else ∅
  unitless _ := False
  amount g _ _ := amtOf (ixOf g.2)
  payload g _ d := payOf m g.1.1 (ixOf g.2) d
  amount_pos g _ _ _ := by
    rcases ixOf g.2 with _ | _ | _
    · exact N_pos
    · exact Nat.one_pos
    · exact N_pos

instance sched_payload_storable (g : GSem nD τ sig) (r : ℕ) (d : Fin 4) :
    BI.Storable (upEmb : UEmb _ 𝕄) ((sched (F := F) m).payload g r d) := payOf_storable m _ _ _

section
variable (c : Dev nD) (x : Msg)

theorem duties_bar : (sched (F := F) m).duties (barCell c) 0 = Finset.univ := by
  dsimp only [sched]; rw [if_pos ⟨rfl, rfl⟩, ixOf_bar]; rfl
theorem duties_send : (sched (F := F) m).duties (sendCell c x) 0 = {0} := by
  dsimp only [sched]; rw [if_pos ⟨rfl, rfl⟩, ixOf_send]; rfl
theorem duties_recv : (sched (F := F) m).duties (recvCell c x) 0 = {0} := by
  dsimp only [sched]; rw [if_pos ⟨rfl, rfl⟩, ixOf_recv]; rfl
theorem duties_later (g : GSem nD τ sig) : ∀ r, 1 ≤ r → (sched (F := F) m).duties g r = ∅ := fun r hr => by
  dsimp only [sched]; exact if_neg fun h => by omega

theorem amount_bar (d : Fin 4) : (sched (F := F) m).amount (barCell c) 0 d = 1 := by dsimp only [sched]; rw [ixOf_bar]; rfl
theorem amount_send (d : Fin 4) : (sched (F := F) m).amount (sendCell c x) 0 d = N := by dsimp only [sched]; rw [ixOf_send]; rfl
theorem amount_recv (d : Fin 4) : (sched (F := F) m).amount (recvCell c x) 0 d = N := by dsimp only [sched]; rw [ixOf_recv]; rfl

theorem expect_bar : (sched (F := F) m).expect (barCell c) 0 = 4 := by
  unfold Schedule.expect Schedule.amountOf
  rw [duties_bar, Finset.sum_congr rfl fun d _ => amount_bar m c d]; rfl
theorem expect_send : (sched (F := F) m).expect (sendCell c x) 0 = N := by
  unfold Schedule.expect Schedule.amountOf; rw [duties_send, Finset.sum_singleton, amount_send]
theorem expect_recv : (sched (F := F) m).expect (recvCell c x) 0 = N := by
  unfold Schedule.expect Schedule.amountOf; rw [duties_recv, Finset.sum_singleton, amount_recv]

theorem payload_bar (d : Fin 4) : (sched (F := F) m).payload (barCell c) 0 d = barPay c d := by dsimp only [sched]; rw [ixOf_bar]; rfl
theorem payload_send (d : Fin 4) : (sched (F := F) m).payload (sendCell c x) 0 d = slotPts m c (srcSlot x) (piece (shr x)) := by
  dsimp only [sched]; rw [ixOf_send]; rfl
theorem payload_recv (d : Fin 4) : (sched (F := F) m).payload (recvCell c x) 0 d = slotPts m c (dstSlot x) fullShare := by
  dsimp only [sched]; rw [ixOf_recv]; rfl

theorem rest_bar : bigSep ((sched (F := F) m).duties (barCell c) 0 \ ∅) (fun d => (sched (F := F) m).payload (barCell c) 0 d)
    = bigSep Finset.univ fun j => barPay c j := by
  rw [Finset.sdiff_empty, duties_bar]; exact bigSep_congr fun d _ => payload_bar m c d
theorem rest_send : bigSep ((sched (F := F) m).duties (sendCell c x) 0 \ ∅) (fun d => (sched (F := F) m).payload (sendCell c x) 0 d)
    = slotPts m c (srcSlot x) (piece (shr x)) := by
  rw [Finset.sdiff_empty, duties_send, bigSep_singleton, payload_send]
theorem rest_recv : bigSep ((sched (F := F) m).duties (recvCell c x) 0 \ ∅) (fun d => (sched (F := F) m).payload (recvCell c x) 0 d)
    = slotPts m c (dstSlot x) fullShare := by
  rw [Finset.sdiff_empty, duties_recv, bigSep_singleton, payload_recv]

end

/-! ## What a device owes, and the levels -/

/-- The round a message belongs to. -/
def mround : Msg → ℕ
  | .prs _ s u => s.val + u.val
  | .zrs _ t => 3 + t.val
  | .zag _ h => 6 + h.val
  | .pag _ k h => 6 + k.val + h.val

/-- What a device that has still to send `l` owes. -/
def owe (c : Dev nD) : List Msg → CellTallies nD τ sig Unit
  | [] => 0
  | x :: l => owe c l + tallyAt (recvCell (tgt x c) x) () N

/-- What it owes to begin with: all its messages, and a signal to each neighbour. -/
def owe4 (c : Dev nD) (l : List Msg) : CellTallies nD τ sig Unit :=
  owe c l + tallyAt (barCell (nbr 3 c)) () 1 + tallyAt (barCell (nbr 2 c)) () 1 + tallyAt (barCell (nbr 1 c)) () 1 + tallyAt (barCell (nbr 0 c)) () 1

def L (g : GSem nD τ sig) : Finset Unit := if g.1.2 = .tc then {()} else ∅
def lvOf : Option CIx → ℕ
  | some none => 1
  | some (some (true, x)) => 2 + mround x
  | _ => 0
def lv (g : GSem nD τ sig) (_ : Unit) : ℕ := lvOf (ixOf g.2)

theorem L_of_ne (g : GSem nD τ sig) (h : g.1.2 ≠ .tc) : L g = ∅ := if_neg h
theorem L_tc (c : Dev nD) (s : SemLoc sig) (u : Unit) : u ∈ L ((c : Thread nD τ), s) := by
  rw [show L ((c : Thread nD τ), s) = {()} from if_pos rfl]; exact Finset.mem_singleton_self _

theorem tally_pos {g h : GSem nD τ sig} {n : ℕ} {u : Unit} (p : 0 < (tallyAt h () n : CellTallies nD τ sig Unit) g u) : g = h := by
  rw [tallyAt_apply] at p
  by_contra hn
  rw [if_neg fun q => hn q.1] at p
  exact Nat.lt_irrefl 0 p

theorem owe_pos {c : Dev nD} {g : GSem nD τ sig} {u : Unit} : ∀ {l : List Msg}, 0 < owe c l g u → ∃ x ∈ l, g = recvCell (tgt x c) x
  | [], h => absurd h (Nat.lt_irrefl 0)
  | x :: l, h => by
    unfold owe at h
    rw [Pi.add_apply, Finsupp.add_apply] at h
    rcases Nat.add_pos_iff_pos_or_pos.mp h with h | h
    · obtain ⟨y, hy, e⟩ := owe_pos h; exact ⟨y, List.mem_cons_of_mem _ hy, e⟩
    · exact ⟨x, List.mem_cons_self, tally_pos h⟩

theorem owe4_pos {c : Dev nD} {g : GSem nD τ sig} {u : Unit} {l : List Msg} (h : 0 < owe4 c l g u) :
    (∃ x ∈ l, g = recvCell (tgt x c) x) ∨ ∃ j, g = barCell (nbr j c) := by
  unfold owe4 at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · rcases Nat.add_pos_iff_pos_or_pos.mp h with h | h
        · exact .inl (owe_pos h)
        · exact .inr ⟨3, tally_pos h⟩
      · exact .inr ⟨2, tally_pos h⟩
    · exact .inr ⟨1, tally_pos h⟩
  · exact .inr ⟨0, tally_pos h⟩

omit [FloatOps F] in
/-- A wait at a level below every message still owed is not circular. -/
theorem mayWait_lt (c : Dev nD) (s : SemLoc sig) (l : List Msg) (h : ∀ x ∈ l, lvOf (ixOf s) < 2 + mround x) :
    (levAts L lv : sProp 𝕄) ⊢ MayWait (c : Thread nD τ) s () (owe c l) :=
  MayOwe.of_cut (L := L) (lev := lv) (lvOf (ixOf s))
    (fun p hp => by rw [Finset.mem_singleton.mp hp]; exact L_tc c s _)
    (fun g u hg => by obtain ⟨x, _, rfl⟩ := owe_pos hg; exact L_tc _ _ _)
    (fun p hp => by rw [Finset.mem_singleton.mp hp]; exact le_rfl)
    (fun g u hg => by
      obtain ⟨x, hx, rfl⟩ := owe_pos hg
      show _ < lvOf (ixOf (.dma (rsem x))); rw [ixOf_recv]; exact h x hx)

omit [FloatOps F] in
/-- A wait on a semaphore that is not the protocol's is below everything owed. -/
theorem mayWait_stage (c : Dev nD) (s : SemLoc sig) (h0 : ixOf s = none) (l : List Msg) :
    (levAts L lv : sProp 𝕄) ⊢ MayWait (c : Thread nD τ) s () (owe4 c l) :=
  MayOwe.of_cut (L := L) (lev := lv) 0
    (fun p hp => by rw [Finset.mem_singleton.mp hp]; exact L_tc c s _)
    (fun g u hg => by rcases owe4_pos hg with ⟨x, _, rfl⟩ | ⟨j, rfl⟩ <;> exact L_tc _ _ _)
    (fun p hp => by rw [Finset.mem_singleton.mp hp]; show lvOf (ixOf s) ≤ 0; rw [h0]; exact le_rfl)
    (fun g u hg => by
      rcases owe4_pos hg with ⟨x, _, rfl⟩ | ⟨j, rfl⟩
      · show 0 < lvOf (ixOf (.dma (rsem x))); rw [ixOf_recv]; exact Nat.lt_of_lt_of_le (by decide) (Nat.le_add_right 2 _)
      · show 0 < lvOf (ixOf (.reg barSem)); rw [ixOf_bar]; exact Nat.one_pos)

end Cert.KernelIdeal.Mesh
-- ==== Proof.Steps.lean ====
/-
  The memory steps: what loading, storing and multiplying need and leave.
-/
module

public import proofs.«01_k».proof.Proof.Sched
public import Idealize.ShloMosaic.Lib.Pipeline.Value

@[expose] public section

noncomputable section

namespace Cert.KernelIdeal.Mesh

open Cert.KernelIdeal Cert.KernelIdeal.Gen
open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

abbrev 𝒱₀ : Variants := Variants.none

/-- That a program of device `c` runs and ends as `Q` says. -/
abbrev run (c : Dev nD) (p : Pr F) (Q : PUnit → sProp 𝕄) : sProp 𝕄 :=
  wp frame (wpE (defs₀ (F := F)) 𝒱₀ (c : Thread nD τ) none) Set.univ p Q

variable (m : (ℓ : Loc nD τ sig) → Buf (Elt F) ℓ)

/-! ## Slots -/

theorem slot_loads (b : Slot) : ((place b).M.access (place b).rect).set ⊆ (slotM b).view.set := by
  rw [show (slotM b).view.set = ((place b).M.access (place b).rect).set from View.set_reshape _ _]

theorem slot_stores (b : Slot) : ((place b).M.access (place b).rect).setOn Finset.univ ⊆ (slotM b).view.set := slot_loads b

/-- Storing a value cast to the rectangle's shape is writing it to the slot. -/
theorem slot_write (c : Dev nD) (b : Slot) (f : Buf (Elt F) ((slotM b).view.loc (c : Thread nD τ))) (w : S96x768.Idx → Elt F .bf16) :
    ((place b).M.access (place b).rect).write (Elt F) f (shapeCast _ w (place b).out) Finset.univ = (slotM b).view.write (Elt F) f w Finset.univ :=
  (View.write_reshape_univ (v := ((place b).M.access (place b).rect)) _ f w).symm

/-- Loading from a written slot. -/
theorem wp_ld (c : Dev nD) (b : Slot) (q : PosShare TreeShare) (k : (S96x768.Idx → Elt F .bf16) → Pr F) (Q : PUnit → sProp 𝕄) :
    slotPts m c b q ⊢ iprop((slotPts m c b q -∗ run c (k (sval m b c)) Q) -∗ run c (ld b k) Q) := by
  have h := wp_load_rect (defs := defs₀ (F := F)) (Γ := .empty) (Q := Q) 𝒱₀ (c : Thread nD τ) none Set.univ (hl := View.loadsAt_vmem (place b).pos)
    (k := fun v => k (shapeCast S96x768 v (place b).into)) (q := q) (f := slotBuf m c b) (slot_loads b)
  have e : shapeCast S96x768 (((place b).M.access (place b).rect).read (Elt F) (slotBuf m c b)) (place b).into = sval m b c :=
    read_slotBuf m c b
  simp only [e] at h
  exact h

/-- Storing to a slot. -/
theorem wp_st (c : Dev nD) (b : Slot) (w : S96x768.Idx → Elt F .bf16) (h : w = sval m b c) (k : Pr F) (Q : PUnit → sProp 𝕄) :
    slotFree c b ⊢ iprop((slotPts m c b fullShare -∗ run c k Q) -∗ run c (st b w k) Q) := by
  unfold slotFree
  iintro ⟨%f, Hs⟩ Hk
  unfold st slotAt
  iapply (wp_load_rect (defs := defs₀ (F := F)) 𝒱₀ (c : Thread nD τ) none Set.univ (hl := View.loadsAt_vmem (place b).pos) (q := fullShare) (f := f) (slot_loads b)) $$ Hs
  iintro Hs
  iapply (wp_store (defs := defs₀ (F := F)) 𝒱₀ (c : Thread nD τ) none Set.univ (f := f) (slot_stores b)) $$ Hs
  iintro Hs
  iapply Hk
  rw [slot_write c b f w]
  iapply (Entails.of_eq (slotAt_write m c b fullShare f w h))
  unfold slotAt
  iexact Hs

/-! ## The plane's sums -/

abbrev predM : Memref sig .tc .vmem S2x4x96x768 .f32 := Memref.whole cc0_scratch6

/-- The place of a plane's sum, with the buffer's contents, -/
def predAt (c : Dev nD) (d : Fin 2) (u : Fin 4) (f : Buf (Elt F) ((predM.access (predRect d u)).loc (c : Thread nD τ))) : sProp 𝕄 :=
  (predM.access (predRect d u)).loc (c : Thread nD τ) ↦[(predM.access (predRect d u)).set]{fullShare} f
/-- whatever it holds, -/
def predFree (c : Dev nD) (d : Fin 2) (u : Fin 4) : sProp 𝕄 := iprop(∃ f, predAt c d u f)
/-- and holding the sum. -/
def predPts (c : Dev nD) (d : Fin 2) (u : Fin 4) : sProp 𝕄 :=
  iprop(∃ f, predAt c d u f ∗ ⌜shapeCast S96x768 ((predM.access (predRect d u)).read (Elt F) f) shapeCasts_S1x1x96x768_S96x768 = predv (xa m) (xb m) d u c⌝)

/-- Loading a sum. -/
theorem wp_ldPred (c : Dev nD) (d : Fin 2) (u : Fin 4) (k : FVec F S96x768 .f32 → Pr F) (Q : PUnit → sProp 𝕄) :
    predPts m c d u ⊢ iprop((predPts m c d u -∗ run c (k (predv (xa m) (xb m) d u c)) Q) -∗ run c (ldPred d u k) Q) := by
  unfold predPts
  iintro ⟨%f, Hs, %h⟩ Hk
  unfold ldPred predAt
  iapply (wp_load_rect (defs := defs₀ (F := F)) 𝒱₀ (c : Thread nD τ) none Set.univ (m := predM) (r := predRect d u) (hl := View.loadsAt_vmem h_S1x1x96x768) (q := fullShare) (f := f) (Finset.Subset.refl _)) $$ Hs
  iintro Hs
  rw [h]
  iapply Hk
  iexists f
  isplitl; · iexact Hs
  ipureintro; exact h

/-- Storing a sum. -/
theorem wp_stPred (c : Dev nD) (d : Fin 2) (u : Fin 4) (w : FVec F S96x768 .f32) (h : w = predv (xa m) (xb m) d u c) (k : Pr F) (Q : PUnit → sProp 𝕄) :
    predFree c d u ⊢ iprop((predPts m c d u -∗ run c k Q) -∗ run c (stPred d u w k) Q) := by
  unfold predFree
  iintro ⟨%f, Hs⟩ Hk
  unfold stPred predAt
  iapply (wp_load_rect (defs := defs₀ (F := F)) 𝒱₀ (c : Thread nD τ) none Set.univ (m := predM) (r := predRect d u) (hl := View.loadsAt_vmem h_S1x1x96x768) (q := fullShare) (f := f) (Finset.Subset.refl _)) $$ Hs
  iintro Hs
  iapply (wp_store (defs := defs₀ (F := F)) 𝒱₀ (c : Thread nD τ) none Set.univ (m := predM) (r := predRect d u) (Mk := Finset.univ) (S := (predM.access (predRect d u)).set) (f := f) (Finset.Subset.refl _)) $$ Hs
  iintro Hs
  iapply Hk
  unfold predPts
  iexists _
  isplitl
  · unfold predAt; iexact Hs
  ipureintro
  rw [View.read_write_univ, ← h]
  exact shapeCast_shapeCast w _ _

/-! ## The result -/

abbrev outM : Memref sig .tc .vmem S1536x1536 .bf16 := Memref.whole cc0_stg2_0

/-- The device that computes a block row of the result. -/
def devOf (d : Fin 2) (r : ℕ) : Dev nD := open Classical in if h : ∃ c, rowBlk d c = r then h.choose else 0

theorem devOf_rowBlk (d : Fin 2) (c : Dev nD) : devOf d (rowBlk d c) = c := by
  have h : ∃ c', rowBlk d c' = rowBlk d c := ⟨c, rfl⟩
  unfold devOf; rw [dif_pos h]; exact rowBlk_inj d _ _ h.choose_spec

/-- The whole result. -/
def outv : S1536x1536.Idx → Elt F .bf16 := fun i =>
  gbv (xa m) (xb m) ⟨(i 1).val / 768, Nat.div_lt_of_lt_mul (i 1).isLt⟩
    (devOf ⟨(i 1).val / 768, Nat.div_lt_of_lt_mul (i 1).isLt⟩ ((i 0).val / 96))
    fun a => match a with
      | 0 => (⟨(i 0).val % 96, Nat.mod_lt _ (by decide)⟩ : Fin 96)
      | 1 => (⟨(i 1).val % 768, Nat.mod_lt _ (by decide)⟩ : Fin 768)

/-- A block's place in the result, with the contents, -/
def outAt (c : Dev nD) (b : Blk) (f : Buf (Elt F) ((outM.access (outRect c b)).loc (c : Thread nD τ))) : sProp 𝕄 :=
  (outM.access (outRect c b)).loc (c : Thread nD τ) ↦[(outM.access (outRect c b)).set]{fullShare} f
/-- whatever they are, -/
def outFree (c : Dev nD) (b : Blk) : sProp 𝕄 := iprop(∃ f, outAt c b f)
/-- and as they end up. -/
def outPts (c : Dev nD) (b : Blk) : sProp 𝕄 := outAt c b (outv m)

theorem outv_emb (c : Dev nD) (b : Blk) (x : S96x768.Idx) : outv m ((outM.access (outRect c b)).emb x) = blkv (xa m) (xb m) b c x := by
  have e := outOff_blk c b
  have h0 : ((outM.access (outRect c b)).emb x 0).val = 96 * rowBlk (blkHalf b) (blkDev b c) + (x 0).val := by
    show outOff c b 0 + 1 * (x 0).val = _; rw [e, Nat.one_mul]; rfl
  have h1 : ((outM.access (outRect c b)).emb x 1).val = 768 * (blkHalf b).val + (x 1).val := by
    show outOff c b 1 + 1 * (x 1).val = _; rw [e, Nat.one_mul]; rfl
  have x0 : (x 0).val < 96 := (x 0).isLt
  have x1 : (x 1).val < 768 := (x 1).isLt
  have a0 : ((outM.access (outRect c b)).emb x 0).val / 96 = rowBlk (blkHalf b) (blkDev b c) := by rw [h0]; omega
  have b0 : ((outM.access (outRect c b)).emb x 0).val % 96 = (x 0).val := by rw [h0]; omega
  have a1 : ((outM.access (outRect c b)).emb x 1).val / 768 = (blkHalf b).val := by rw [h1]; omega
  have b1 : ((outM.access (outRect c b)).emb x 1).val % 768 = (x 1).val := by rw [h1]; omega
  have hd : (⟨((outM.access (outRect c b)).emb x 1).val / 768, Nat.div_lt_of_lt_mul ((outM.access (outRect c b)).emb x 1).isLt⟩ : Fin 2) = blkHalf b := Fin.ext a1
  unfold outv blkv
  rw [hd, a0, devOf_rowBlk]
  congr 1
  funext a
  match a with
  | 0 => exact Fin.ext b0
  | 1 => exact Fin.ext b1

/-- Storing a block of the result. -/
theorem wp_stOut (c : Dev nD) (b : Blk) (w : S96x768.Idx → Elt F .bf16) (h : w = blkv (xa m) (xb m) b c) (k : Pr F) (Q : PUnit → sProp 𝕄) :
    outFree c b ⊢ iprop((outPts m c b -∗ run c k Q) -∗ run c (stOut c b w k) Q) := by
  unfold outFree
  iintro ⟨%f, Hs⟩ Hk
  unfold stOut outAt
  iapply (wp_load_rect (defs := defs₀ (F := F)) 𝒱₀ (c : Thread nD τ) none Set.univ (m := outM) (r := outRect c b) (hl := View.loadsAt_vmem h_S96x768) (q := fullShare) (f := f) (Finset.Subset.refl _)) $$ Hs
  iintro Hs
  iapply (wp_store (defs := defs₀ (F := F)) 𝒱₀ (c : Thread nD τ) none Set.univ (m := outM) (r := outRect c b) (Mk := Finset.univ) (S := (outM.access (outRect c b)).set) (f := f) (Finset.Subset.refl _)) $$ Hs
  iintro Hs
  iapply Hk
  have e : (((outM.access (outRect c b)).loc (c : Thread nD τ) ↦[(outM.access (outRect c b)).set]{fullShare} (outM.access (outRect c b)).write (Elt F) f w Finset.univ) : sProp 𝕄)
      = outPts m c b := by
    unfold outPts outAt
    refine pointsTo_congr fun i hi => ?_
    obtain ⟨x, -, rfl⟩ := Finset.mem_map.mp hi
    rw [View.write_emb_of_mem _ _ (Finset.mem_univ _), h]
    exact (outv_emb m c b x).symm
  iapply (Entails.of_eq e)
  iexact Hs

/-! ## The operands -/

/-- The operands' copies in scratch. -/
def opA (c : Dev nD) : sProp 𝕄 := ((c : Thread nD τ).loc cc0_scratch0) ↦{fullShare} (xa m c)
def opB (c : Dev nD) : sProp 𝕄 := ((c : Thread nD τ).loc cc0_scratch1) ↦{fullShare} (xb m c)

theorem wp_ldDot (c : Dev nD) (off : Fin 2 → ℕ) (inb : ∀ a, off a + S96x768.size a ≤ S1536x768.size a) (d : Fin 2)
    (k : FVec F S96x768 .f32 → Pr F) (Q : PUnit → sProp 𝕄) :
    iprop(opA m c ∗ opB m c) ⊢ iprop((opA m c ∗ opB m c -∗ run c (k (dotv (rowsAt (xa m c) off inb) (colsAt (xb m c) d))) Q)
      -∗ run c (ldDot off inb d k) Q) := by
  unfold opA opB
  iintro ⟨HA, HB⟩ Hk
  unfold ldDot
  iapply (wp_load (defs := defs₀ (F := F)) 𝒱₀ (c : Thread nD τ) none Set.univ (m := (Memref.whole cc0_scratch1 : Memref sig .tc .vmem S768x1536 .bf16)) (Finset.subset_univ _)) $$ HB
  iintro HB
  iapply (wp_load (defs := defs₀ (F := F)) 𝒱₀ (c : Thread nD τ) none Set.univ (m := (Memref.whole cc0_scratch0 : Memref sig .tc .vmem S1536x768 .bf16)) (Finset.subset_univ _)) $$ HA
  iintro HA
  iapply Hk
  isplitl [HA] <;> iassumption

end Cert.KernelIdeal.Mesh
-- ==== Proof.Plan.lean ====
/-
  The bookkeeping of the steps: what each step uses up and what it leaves, and that the list of steps can be
  carried out from what a device starts with.
-/
module

public import proofs.«01_k».proof.Proof.Sched

@[expose] public section

namespace Cert.KernelIdeal.Mesh

open Cert.KernelIdeal Cert.KernelIdeal.Gen
open Idealize.ShloMosaic

/-- What a device holds between two steps: a slot whatever it contains, one of the three shares of a
    written slot, the place of a plane's sum and the sum, a block's place in the result and the block;
    and for each message the right to send it, that it is on its way, the right to await it, and that
    it has been awaited. -/
inductive Item
  | free (b : Slot)
  | pc (b : Slot) (i : Fin 3)
  | pfree (d : Fin 2) (u : Fin 4)
  | ppts (d : Fin 2) (u : Fin 4)
  | ofree (b : Blk)
  | opts (b : Blk)
  | todo (x : Msg)
  | sent (x : Msg)
  | due (x : Msg)
  | done (x : Msg)
  deriving DecidableEq

/-- A value computed and not yet used: a chunk's product, or the whole sum of half a block. -/
inductive Reg
  | loc (d : Fin 2) (s : Fin 3) (u : Fin 4)
  | zf (d : Fin 2)
  deriving DecidableEq

/-- All of a written slot. -/
def pcs (b : Slot) : List Item := [.pc b 0, .pc b 1, .pc b 2]

/-- What a step uses up, -/
def need : Op → List Item
  | .own d u => [.free (.ps d 0 u)]
  | .send x => [.todo x, .pc (srcSlot x) (shr x)]
  | .loc _ _ _ => []
  | .await x => [.sent x, .due x]
  | .red d s u => [.pc (.pr d s.castSucc u) 2, .free (.ps d s.succ u)]
  | .fin d u => [.pc (.pr d 2 u) 2, .pfree d u] ++ if u = 0 then [.free (.zs d 0)] else []
  | .zred d t => [.ppts d t.castSucc.succ, .pc (.zr d t.castSucc) 2, .free (.zs d t.succ)]
  | .zfin d => [.ppts d 3, .pc (.zr d 2) 2]
  | .gelu => [.ofree (.own 0), .ofree (.own 1), .free (.ag 0), .free (.ag 1)]
  | .flz d h => [.pc (.gz d h) 2, .ofree (.z d h)]
  | .flp d k h => [.pc (.gp d k h) 2, .ofree (.p d k h)]

/-- and what it leaves. -/
def give : Op → List Item
  | .own d u => pcs (.ps d 0 u)
  | .send x => [.sent x]
  | .loc _ _ _ => []
  | .await x => [.done x, .pc (srcSlot x) (shr x)] ++ pcs (dstSlot x)
  | .red d s u => .pc (.pr d s.castSucc u) 2 :: pcs (.ps d s.succ u)
  | .fin d u => [.pc (.pr d 2 u) 2, .ppts d u] ++ if u = 0 then pcs (.zs d 0) else []
  | .zred d t => [.ppts d t.castSucc.succ, .pc (.zr d t.castSucc) 2] ++ pcs (.zs d t.succ)
  | .zfin d => [.ppts d 3, .pc (.zr d 2) 2]
  | .gelu => [.opts (.own 0), .opts (.own 1)] ++ pcs (.ag 0) ++ pcs (.ag 1)
  | .flz d h => [.pc (.gz d h) 2, .opts (.z d h)]
  | .flp d k h => [.pc (.gp d k h) 2, .opts (.p d k h)]

/-- The values computed and not yet used, after a step. -/
def queue : Op → List Reg → Option (List Reg)
  | .loc d s u, q => some (q ++ [.loc d s u])
  | .red d s u, r :: q => if r = .loc d s.castSucc u then some q else none
  | .fin d u, r :: q => if r = .loc d 2 u then some q else none
  | .zfin d, q => some (q ++ [.zf d])
  | .gelu, r :: r' :: q => if r = .zf 0 ∧ r' = .zf 1 then some q else none
  | .red _ _ _, [] => none
  | .fin _ _, [] => none
  | .gelu, _ => none
  | _, q => some q

/-- The messages that are still to be sent. -/
def sends : List Op → List Msg
  | [] => []
  | .send x :: l => x :: sends l
  | _ :: l => sends l

/-- A wait is allowed if the messages still to be sent belong to later rounds. -/
def waitOk (l : List Op) : Op → Bool
  | .await x => (sends l).all fun y => decide (mround x < mround y)
  | _ => true

/-- Take an item out of a list, -/
def take (i : Item) : List Item → Option (List Item)
  | [] => none
  | j :: l => if i = j then some l else (take i l).map (j :: ·)

/-- or several. -/
def takeAll : List Item → List Item → Option (List Item)
  | [], l => some l
  | i :: is, l => (take i l).bind (takeAll is)

structure St where
  items : List Item
  q : List Reg
  deriving DecidableEq

/-- Carry out a step, -/
def step (o : Op) (l : List Op) (σ : St) : Option St :=
  if waitOk l o then (takeAll (need o) σ.items).bind fun is => (queue o σ.q).map fun q => ⟨give o ++ is, q⟩ else none

/-- or several. -/
def steps : List Op → St → Option St
  | [], σ => some σ
  | o :: l, σ => (step o l σ).bind (steps l)

/-- The slots messages do not land in. -/
def homeList : List Slot :=
  (List.finRange 2).flatMap (fun d => (List.finRange 3).flatMap fun s => (List.finRange 4).map fun u => .ps d s u) ++
  (List.finRange 2).flatMap (fun d => (List.finRange 3).map fun s => .zs d s) ++ (List.finRange 2).map .ag
def predList : List (Fin 2 × Fin 4) := (List.finRange 2).flatMap fun d => (List.finRange 4).map fun u => (d, u)
def blkList : List Blk :=
  (List.finRange 2).map .own ++ (List.finRange 2).flatMap (fun d => (List.finRange 3).map fun s => .z d s) ++
  (List.finRange 2).flatMap (fun d => (List.finRange 4).flatMap fun k => (List.finRange 3).map fun h => .p d k h)

/-- What a device starts with, -/
def init : List Item :=
  homeList.map .free ++ (predList.map (fun p => .pfree p.1 p.2) ++ (blkList.map .ofree ++ (msgList.map .todo ++ msgList.map .due)))
/-- and what it ends with. -/
def final : List Item :=
  homeList.flatMap pcs ++ ((msgList.map dstSlot).flatMap pcs ++ (predList.map (fun p => .ppts p.1 p.2) ++ (blkList.map .opts ++ msgList.map .done)))

/-- The steps can be carried out, and lead from the one to the other. -/
theorem plan_ok : ((steps ops ⟨init, []⟩).bind fun σ => takeAll final σ.items).isSome = true := by decide +kernel

end Cert.KernelIdeal.Mesh
-- ==== Proof.Exec.lean ====
/-
  Carrying out the steps: each step's rule, and the list of steps by induction.
-/
module

public import proofs.«01_k».proof.Proof.Steps
public import proofs.«01_k».proof.Proof.Plan

@[expose] public section

set_option maxRecDepth 10000

noncomputable section

namespace Cert.KernelIdeal.Mesh

open Cert.KernelIdeal Cert.KernelIdeal.Gen
open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ)

/-! ## Items as resources -/

/-- The right to send a message: the two duties its departure and its arrival pay, and the slot it lands in. -/
def todoR (c : Dev nD) (x : Msg) : sProp 𝕄 :=
  iprop(dutyTok ER (sendCell c x) 0 0 ∗ dutyTok ER (recvCell (tgt x c) x) 0 0 ∗ slotFree (tgt x c) (dstSlot x))
/-- The right to await it: the arrival's credit, and the positions on its two cells. -/
def dueR (c : Dev nD) (x : Msg) : sProp 𝕄 :=
  iprop(cred (tallyAt (recvCell c x) () N) ∗ atPos ER (sendCell c x) 0 ∅ 0 ∗ atPos ER (recvCell c x) 0 ∅ 0)
/-- Awaited: both cells are past their only round. -/
def doneR (c : Dev nD) (x : Msg) : sProp 𝕄 := iprop(atPos ER (sendCell c x) 1 ∅ 0 ∗ atPos ER (recvCell c x) 1 ∅ 0)

def own (c : Dev nD) : Item → sProp 𝕄
  | .free b => slotFree c b
  | .pc b i => slotPts m c b (piece i)
  | .pfree d u => predFree c d u
  | .ppts d u => predPts m c d u
  | .ofree b => outFree c b
  | .opts b => outPts m c b
  | .todo x => todoR c x
  | .sent x => cred (tallyAt (sendCell c x) () N)
  | .due x => dueR c x
  | .done x => doneR c x

/-- A list of items. -/
def hold (c : Dev nD) : List Item → sProp 𝕄
  | [] => iprop(emp)
  | i :: l => iprop(own m c i ∗ hold c l)

theorem hold_append (c : Dev nD) (l l' : List Item) : hold m c (l ++ l') ⊣⊢ iprop(hold m c l ∗ hold m c l') := by
  induction l with
  | nil => exact emp_sep.symm
  | cons i l ih => exact (sep_congr_right ih).trans sep_assoc.symm

theorem hold_take (c : Dev nD) (i : Item) : ∀ (l l' : List Item), take i l = some l' → (hold m c l ⊢ iprop(own m c i ∗ hold m c l'))
  | [], _, h => by cases h
  | j :: l, l', h => by
    unfold take at h
    by_cases e : i = j
    · rw [if_pos e, Option.some.injEq] at h; subst e; subst h; exact Entails.refl _
    · rw [if_neg e] at h
      obtain ⟨k, hk, rfl⟩ := Option.map_eq_some_iff.mp h
      have ih := hold_take c i l k hk
      show iprop(own m c j ∗ hold m c l) ⊢ iprop(own m c i ∗ own m c j ∗ hold m c k)
      iintro ⟨Hj, Hl⟩
      ihave H := ih $$ Hl
      icases H with ⟨Hi, Hk⟩
      isplitl [Hi]; · iexact Hi
      isplitl [Hj] <;> iassumption

theorem hold_takeAll (c : Dev nD) : ∀ (is l l' : List Item), takeAll is l = some l' → (hold m c l ⊢ iprop(hold m c is ∗ hold m c l'))
  | [], l, l', h => by
    unfold takeAll at h; cases h; exact (emp_sep (PROP := sProp 𝕄)).2
  | i :: is, l, l', h => by
    unfold takeAll at h
    obtain ⟨k, hk, hr⟩ := Option.bind_eq_some_iff.mp h
    have h1 := hold_take m c i l k hk
    have h2 := hold_takeAll c is k l' hr
    show hold m c l ⊢ iprop((own m c i ∗ hold m c is) ∗ hold m c l')
    iintro Hl
    ihave H := h1 $$ Hl
    icases H with ⟨Hi, Hk⟩
    ihave H := h2 $$ Hk
    icases H with ⟨His, Hl'⟩
    isplitl [Hi His]
    · isplitl [Hi] <;> iassumption
    iassumption

/-- A whole written slot is its three shares. -/
theorem hold_pcs (c : Dev nD) (b : Slot) : slotPts m c b fullShare ⊢ hold m c (pcs b) := by
  show _ ⊢ iprop(slotPts m c b fullShare.left ∗ slotPts m c b fullShare.right.left ∗ slotPts m c b fullShare.right.right ∗ emp)
  unfold slotPts slotAt
  iintro H
  ihave H := (pointsTo_share (PosShare.mem_left_op_right fullShare)).1 $$ H
  icases H with ⟨Hl, Hr⟩
  ihave H := (pointsTo_share (PosShare.mem_left_op_right fullShare.right)).1 $$ Hr
  icases H with ⟨Hrl, Hrr⟩
  isplitl [Hl]; · iexact Hl
  isplitl [Hrl]; · iexact Hrl
  isplitl [Hrr]; · iexact Hrr
  iempintro

/-- The three shares are the slot. -/
theorem pcs_hold (c : Dev nD) (b : Slot) : hold m c (pcs b) ⊢ slotFree c b := by
  show iprop(slotPts m c b fullShare.left ∗ slotPts m c b fullShare.right.left ∗ slotPts m c b fullShare.right.right ∗ emp) ⊢ _
  unfold slotPts slotFree slotAt
  iintro ⟨Hl, Hrl, Hrr, -⟩
  iexists _
  iapply (pointsTo_share (PosShare.mem_left_op_right fullShare)).2
  isplitl [Hl]; · iexact Hl
  iapply (pointsTo_share (PosShare.mem_left_op_right fullShare.right)).2
  isplitl [Hrl] <;> iassumption

/-! ## The cells' records -/

/-- Every cell's invariant, that every cell is at its round, and the levels. -/
def records (K : Dev nD × CIx → ℕ) : sProp 𝕄 :=
  iprop((bigSep Finset.univ fun ck : Dev nD × CIx => cellInv ER (sched m) (K ck) (kcell ck))
    ∗ (bigSep Finset.univ fun ck : Dev nD × CIx => reached ER (kcell ck) 0) ∗ levAts L lv)

instance records_persistent (K : Dev nD × CIx → ℕ) : BI.Persistent (records m K) := by unfold records; infer_instance

theorem rec_inv (K : Dev nD × CIx → ℕ) (ck : Dev nD × CIx) : records m K ⊢ cellInv ER (sched m) (K ck) (kcell ck) := by
  have h : (bigSep Finset.univ fun ck : Dev nD × CIx => (cellInv ER (sched m) (K ck) (kcell ck) : sProp 𝕄)) ⊢ cellInv ER (sched m) (K ck) (kcell ck) :=
    bigSep_elim (Finset.mem_univ ck)
  unfold records; iintro ⟨H, -, -⟩; iapply h; iexact H
theorem rec_reached (K : Dev nD × CIx → ℕ) (ck : Dev nD × CIx) : records m K ⊢ reached ER (kcell ck) 0 := by
  have h : (bigSep Finset.univ fun ck : Dev nD × CIx => (reached ER (kcell ck) 0 : sProp 𝕄)) ⊢ reached ER (kcell ck) 0 :=
    bigSep_elim (Finset.mem_univ ck)
  unfold records; iintro ⟨-, H, -⟩; iapply h; iexact H
theorem rec_lev (K : Dev nD × CIx → ℕ) : records m K ⊢ levAts L lv := by
  unfold records; iintro ⟨-, -, H⟩; iexact H

/-- What the device owes, whatever it has waited on. -/
def debt (c : Dev nD) (O : CellTallies nD τ sig Unit) : sProp 𝕄 := iprop(∃ W, owes (c : Thread nD τ) O W)

/-! ## Messages -/

/-- Sending a message. -/
theorem wp_start (K : Dev nD × CIx → ℕ) (c : Dev nD) (x : Msg) (l : List Msg) (k : Pr F) (Q : PUnit.{1} → sProp 𝕄) :
    iprop(records m K ∗ todoR c x ∗ slotPts m c (srcSlot x) (piece (shr x)) ∗ debt c (owe c (x :: l)))
      ⊢ iprop((cred (tallyAt (sendCell c x) () N) ∗ debt c (owe c l) -∗ run c k Q) -∗ run c (start c x k) Q) := by
  unfold todoR debt slotFree slotPts slotAt
  iintro ⟨#HR, ⟨Ht1, Ht2, %fd, Hd⟩, Hs, %W, HO⟩ Hk
  unfold start
  iapply (Rounds.wp_send_pointsTo 𝒱₀ ER (sched m) (c : Thread nD τ) none (c' := (tgt x c : Thread nD τ))
    (src := slotM (srcSlot x)) (dst := slotM (dstSlot x)) (sS := .dma (ssem x)) (sem := .dma (rsem x))
    (κ₁ := K (c, some (false, x))) (κ₂ := K (tgt x c, some (true, x)))
    (r₁ := 0) (r₂ := 0) (d₁ := 0) (d₂ := 0) (q := piece (shr x)) (fs := slotBuf m c (srcSlot x)) (fd := fd)
    (by rw [duties_send]; exact Finset.mem_singleton_self _) (by rw [duties_recv]; exact Finset.mem_singleton_self _)
    () () N (credit_eq _) (amount_send m c x 0) (amount_recv m (tgt x c) x 0) (owe c l) rfl (W := W)
    (by rw [payload_send]; exact Entails.refl _)
    (by
      rw [payload_recv, read_slotBuf]
      exact Entails.of_eq (slotAt_write m (tgt x c) (dstSlot x) fullShare fd _ (by
        show sval m (srcSlot x) c = sval m (dstSlot x) (tgt x c)
        rw [sval, sval, slotv_dst, src_tgt])))) $$ [Hs Hd HO Ht1 Ht2]
  · isplitr; · iapply (rec_inv m K (c, some (false, x))); iexact HR
    isplitr; · iapply (rec_inv m K (tgt x c, some (true, x))); iexact HR
    isplitl [Hs]; · iexact Hs
    isplitl [Hd]; · iexact Hd
    isplitl [HO]; · iexact HO
    isplitl [Ht1]; · iexact Ht1
    isplitr; · iapply (rec_reached m K (c, some (false, x))); iexact HR
    isplitl [Ht2]; · iexact Ht2
    iapply (rec_reached m K (tgt x c, some (true, x))); iexact HR
  iintro ⟨Hc, HO⟩
  iapply Hk
  isplitl [Hc]; · iexact Hc
  iexists W; iexact HO

/-- Awaiting a message's departure and the arrival of the one received. -/
theorem wp_waits (K : Dev nD × CIx → ℕ) (c : Dev nD) (x : Msg) (l : List Msg) (hl : ∀ y ∈ l, mround x < mround y) (k : Pr F) (Q : PUnit.{1} → sProp 𝕄) :
    iprop(records m K ∗ cred (tallyAt (sendCell c x) () N) ∗ dueR c x ∗ debt c (owe c l))
      ⊢ iprop((doneR c x ∗ slotPts m c (srcSlot x) (piece (shr x)) ∗ slotPts m c (dstSlot x) fullShare ∗ debt c (owe c l) -∗ run c k Q)
        -∗ run c (waits x k) Q) := by
  have hS : records m K ⊢ MayWait (c : Thread nD τ) (.dma (ssem x)) () (owe c l) :=
    (rec_lev m K).trans (mayWait_lt c (.dma (ssem x)) l fun y _ => by rw [ixOf_send]; exact Nat.lt_of_lt_of_le Nat.two_pos (Nat.le_add_right 2 _))
  have hR : records m K ⊢ MayWait (c : Thread nD τ) (.dma (rsem x)) () (owe c l) :=
    (rec_lev m K).trans (mayWait_lt c (.dma (rsem x)) l fun y hy => by rw [ixOf_recv]; exact Nat.add_lt_add_left (hl y hy) 2)
  unfold dueR debt doneR
  iintro ⟨#HR, HcS, ⟨HcR, HaS, HaR⟩, %W, HO⟩ Hk
  unfold waits
  iapply (Rounds.wp_wait_rest_token 𝒱₀ ER (sched m) (c : Thread nD τ) none (κ := K (c, some (false, x))) (sm := .dma (ssem x)) (k' := N)
      (by rw [← credit_eq (srcSlot x)]; exact wpE_waitDma2_eq 𝒱₀ (c : Thread nD τ) none Set.univ) (Set.mem_univ _) () (O := owe c l) (W := W) (R := 0) (m := 0) (T := ∅)
      (by rw [Nat.zero_add, expect_send])) $$ [HcS HO HaS]
  · isplitr; · iapply (rec_inv m K (c, some (false, x))); iexact HR
    isplitl [HcS]; · iexact HcS
    isplitl [HO]; · iexact HO
    isplitr; · iapply hS; iexact HR
    iexact HaS
  iintro ⟨HO, HaS, -, Hp⟩
  ihave Hs := (Entails.of_eq (rest_send m c x)) $$ Hp
  iapply (Rounds.wp_wait_rest_token 𝒱₀ ER (sched m) (c : Thread nD τ) none (κ := K (c, some (true, x))) (sm := .dma (rsem x)) (k' := N)
      (by rw [← credit_eq (dstSlot x)]; exact wpE_waitDma2_eq 𝒱₀ (c : Thread nD τ) none Set.univ) (Set.mem_univ _) () (O := owe c l) (R := 0) (m := 0) (T := ∅)
      (by rw [Nat.zero_add, expect_recv])) $$ [HcR HO HaR]
  · isplitr; · iapply (rec_inv m K (c, some (true, x))); iexact HR
    isplitl [HcR]; · iexact HcR
    isplitl [HO]; · iexact HO
    isplitr; · iapply hR; iexact HR
    iexact HaR
  iintro ⟨HO, HaR, -, Hp⟩
  ihave Hd := (Entails.of_eq (rest_recv m c x)) $$ Hp
  iapply Hk
  isplitl [HaS HaR]
  · isplitl [HaS] <;> iassumption
  isplitl [Hs]; · iexact Hs
  isplitl [Hd]; · iexact Hd
  iexists _; iexact HO

/-! ## Steps -/

/-- The values computed and not yet used. -/
def regv (c : Dev nD) : Reg → FVec F S96x768 .f32
  | .loc d s u => locv (xa m) (xb m) d s u c
  | .zf d => zfinv (xa m) (xb m) d c

/-- What a step's rule says: from what the step needs, if the rest of the program runs from what it gives, so does the whole. -/
def StepOk (K : Dev nD × CIx → ℕ) (c : Dev nD) (o : Op) (l : List Op) (q q' : List Reg) (Q : PUnit.{1} → sProp 𝕄) : Prop :=
  iprop(records m K ∗ (opA m c ∗ opB m c) ∗ hold m c (need o) ∗ debt c (owe c (sends (o :: l))))
    ⊢ iprop(((opA m c ∗ opB m c) ∗ hold m c (give o) ∗ debt c (owe c (sends l)) -∗ run c (exec c l (q'.map (regv m c))) Q)
      -∗ run c (exec c (o :: l) (q.map (regv m c))) Q)

section
variable (K : Dev nD × CIx → ℕ) (c : Dev nD) (l : List Op) (q : List Reg)

theorem ok_own (Q : PUnit.{1} → sProp 𝕄) (d : Fin 2) (u : Fin 4) : StepOk m K c (.own d u) l q q Q := by
  unfold StepOk
  simp only [need, give, hold, own, sends, exec]
  iintro ⟨-, HAB, ⟨Hf, -⟩, HO⟩ Hk
  iapply (wp_ldDot m c (ownOff c d u) (ownOff_inb c d u) d) $$ HAB
  iintro HAB
  iapply (wp_st m c (.ps d 0 u) _ rfl) $$ Hf
  iintro Hs
  iapply Hk
  isplitl [HAB]; · iexact HAB
  isplitl [Hs]; · iapply (hold_pcs m c (.ps d 0 u)); iexact Hs
  iexact HO

theorem ok_send (Q : PUnit.{1} → sProp 𝕄) (x : Msg) : StepOk m K c (.send x) l q q Q := by
  unfold StepOk
  simp only [need, give, hold, own, sends, exec]
  iintro ⟨#HR, HAB, ⟨Ht, Hs, -⟩, HO⟩ Hk
  iapply (wp_start m K c x (sends l)) $$ [Ht Hs HO]
  · isplitr; · iexact HR
    isplitl [Ht]; · iexact Ht
    isplitl [Hs] <;> iassumption
  iintro ⟨Hc, HO⟩
  iapply Hk
  isplitl [HAB]; · iexact HAB
  isplitl [Hc]
  · isplitl [Hc]; · iexact Hc
    iempintro
  iexact HO

theorem ok_loc (Q : PUnit.{1} → sProp 𝕄) (d : Fin 2) (s : Fin 3) (u : Fin 4) : StepOk m K c (.loc d s u) l q (q ++ [.loc d s u]) Q := by
  unfold StepOk
  simp only [need, give, hold, own, sends, exec, List.map_append, List.map_cons, List.map_nil, regv]
  iintro ⟨-, HAB, -, HO⟩ Hk
  iapply (wp_ldDot m c (locOff c d s u) (locOff_inb c d s u) d) $$ HAB
  iintro HAB
  iapply Hk
  isplitl [HAB]; · iexact HAB
  isplitr; · iempintro
  iexact HO

theorem ok_await (Q : PUnit.{1} → sProp 𝕄) (x : Msg) (h : waitOk l (.await x) = true) : StepOk m K c (.await x) l q q Q := by
  have hl : ∀ y ∈ sends l, mround x < mround y := fun y hy => of_decide_eq_true (List.all_eq_true.mp h y hy)
  unfold StepOk
  simp only [need, give, hold, own, sends, exec, List.cons_append, List.nil_append]
  iintro ⟨#HR, HAB, ⟨Hs, Hd, -⟩, HO⟩ Hk
  iapply (wp_waits m K c x (sends l) hl) $$ [Hs Hd HO]
  · isplitr; · iexact HR
    isplitl [Hs]; · iexact Hs
    isplitl [Hd] <;> iassumption
  iintro ⟨Hd, Hs, Hr, HO⟩
  iapply Hk
  isplitl [HAB]; · iexact HAB
  isplitr [HO]
  · isplitl [Hd]; · iexact Hd
    isplitl [Hs]; · iexact Hs
    iapply (hold_pcs m c (dstSlot x)); iexact Hr
  iexact HO

theorem ok_red (Q : PUnit.{1} → sProp 𝕄) (d : Fin 2) (s : Fin 2) (u : Fin 4) : StepOk m K c (.red d s u) l (.loc d s.castSucc u :: q) q Q := by
  unfold StepOk
  simp only [need, give, hold, own, sends, exec, List.map_cons, regv]
  iintro ⟨-, HAB, ⟨Hp, Hf, -⟩, HO⟩ Hk
  iapply (wp_ld m c (.pr d s.castSucc u) (piece 2)) $$ Hp
  iintro Hp
  iapply (wp_st m c (.ps d s.succ u) _ (by fin_cases s <;> rfl)) $$ Hf
  iintro Hs
  iapply Hk
  isplitl [HAB]; · iexact HAB
  isplitr [HO]
  · isplitl [Hp]; · iexact Hp
    iapply (hold_pcs m c (.ps d s.succ u)); iexact Hs
  iexact HO

theorem ok_fin (Q : PUnit.{1} → sProp 𝕄) (d : Fin 2) (u : Fin 4) : StepOk m K c (.fin d u) l (.loc d 2 u :: q) q Q := by
  unfold StepOk
  simp only [need, give, hold, own, sends, exec, List.map_cons, regv, List.cons_append, List.nil_append]
  iintro ⟨-, HAB, ⟨Hp, Hf, Hz⟩, HO⟩ Hk
  iapply (wp_ld m c (.pr d 2 u) (piece 2)) $$ Hp
  iintro Hp
  iapply (wp_stPred m c d u _ rfl) $$ Hf
  iintro Hf
  by_cases h : u = 0
  · subst h
    simp only [if_pos, hold, own]
    icases Hz with ⟨Hz, -⟩
    iapply (wp_st m c (.zs d 0) _ rfl) $$ Hz
    iintro Hz
    iapply Hk
    isplitl [HAB]; · iexact HAB
    isplitr [HO]
    · isplitl [Hp]; · iexact Hp
      isplitl [Hf]; · iexact Hf
      iapply (hold_pcs m c (.zs d 0)); iexact Hz
    iexact HO
  · simp only [if_neg h, hold]
    iapply Hk
    isplitl [HAB]; · iexact HAB
    isplitr [HO]
    · isplitl [Hp]; · iexact Hp
      isplitl [Hf]; · iexact Hf
      iempintro
    iexact HO

theorem ok_zred (Q : PUnit.{1} → sProp 𝕄) (d : Fin 2) (t : Fin 2) : StepOk m K c (.zred d t) l q q Q := by
  unfold StepOk
  simp only [need, give, hold, own, sends, exec, List.cons_append, List.nil_append]
  iintro ⟨-, HAB, ⟨Hf, Hp, Hz, -⟩, HO⟩ Hk
  iapply (wp_ldPred m c d t.castSucc.succ) $$ Hf
  iintro Hf
  iapply (wp_ld m c (.zr d t.castSucc) (piece 2)) $$ Hp
  iintro Hp
  iapply (wp_st m c (.zs d t.succ) _ (by fin_cases t <;> rfl)) $$ Hz
  iintro Hz
  iapply Hk
  isplitl [HAB]; · iexact HAB
  isplitr [HO]
  · isplitl [Hf]; · iexact Hf
    isplitl [Hp]; · iexact Hp
    iapply (hold_pcs m c (.zs d t.succ)); iexact Hz
  iexact HO

theorem ok_zfin (Q : PUnit.{1} → sProp 𝕄) (d : Fin 2) : StepOk m K c (.zfin d) l q (q ++ [.zf d]) Q := by
  unfold StepOk
  simp only [need, give, hold, own, sends, exec, List.map_append, List.map_cons, List.map_nil, regv]
  iintro ⟨-, HAB, ⟨Hf, Hp, -⟩, HO⟩ Hk
  iapply (wp_ldPred m c d 3) $$ Hf
  iintro Hf
  iapply (wp_ld m c (.zr d 2) (piece 2)) $$ Hp
  iintro Hp
  iapply Hk
  isplitl [HAB]; · iexact HAB
  isplitr [HO]
  · isplitl [Hf]; · iexact Hf
    isplitl [Hp]; · iexact Hp
    iempintro
  iexact HO

theorem ok_gelu (Q : PUnit.{1} → sProp 𝕄) : StepOk m K c .gelu l (.zf 0 :: .zf 1 :: q) q Q := by
  unfold StepOk
  simp only [need, give, hold, own, sends, exec, List.map_cons, regv, List.cons_append, List.nil_append]
  iintro ⟨-, HAB, ⟨Ho0, Ho1, Hf0, Hf1, -⟩, HO⟩ Hk
  iapply (wp_stOut m c (.own 0) _ rfl) $$ Ho0
  iintro Ho0
  iapply (wp_stOut m c (.own 1) _ rfl) $$ Ho1
  iintro Ho1
  iapply (wp_st m c (.ag 0) _ rfl) $$ Hf0
  iintro Hf0
  iapply (wp_st m c (.ag 1) _ rfl) $$ Hf1
  iintro Hf1
  iapply Hk
  isplitl [HAB]; · iexact HAB
  isplitr [HO]
  · isplitl [Ho0]; · iexact Ho0
    isplitl [Ho1]; · iexact Ho1
    iapply (hold_append m c (pcs (.ag 0)) (pcs (.ag 1))).2
    isplitl [Hf0]; · iapply (hold_pcs m c (.ag 0)); iexact Hf0
    iapply (hold_pcs m c (.ag 1)); iexact Hf1
  iexact HO

theorem ok_flz (Q : PUnit.{1} → sProp 𝕄) (d : Fin 2) (h : Fin 3) : StepOk m K c (.flz d h) l q q Q := by
  unfold StepOk
  simp only [need, give, hold, own, sends, exec]
  iintro ⟨-, HAB, ⟨Hp, Ho, -⟩, HO⟩ Hk
  iapply (wp_ld m c (.gz d h) (piece 2)) $$ Hp
  iintro Hp
  iapply (wp_stOut m c (.z d h) _ rfl) $$ Ho
  iintro Ho
  iapply Hk
  isplitl [HAB]; · iexact HAB
  isplitr [HO]
  · isplitl [Hp]; · iexact Hp
    isplitl [Ho]; · iexact Ho
    iempintro
  iexact HO

theorem ok_flp (Q : PUnit.{1} → sProp 𝕄) (d : Fin 2) (k : Fin 4) (h : Fin 3) : StepOk m K c (.flp d k h) l q q Q := by
  unfold StepOk
  simp only [need, give, hold, own, sends, exec]
  iintro ⟨-, HAB, ⟨Hp, Ho, -⟩, HO⟩ Hk
  iapply (wp_ld m c (.gp d k h) (piece 2)) $$ Hp
  iintro Hp
  iapply (wp_stOut m c (.p d k h) _ rfl) $$ Ho
  iintro Ho
  iapply Hk
  isplitl [HAB]; · iexact HAB
  isplitr [HO]
  · isplitl [Hp]; · iexact Hp
    isplitl [Ho]; · iexact Ho
    iempintro
  iexact HO

/-- Every step's rule. -/
theorem step_ok (Q : PUnit.{1} → sProp 𝕄) (o : Op) (q' : List Reg) (hw : waitOk l o = true) (hq : queue o q = some q') : StepOk m K c o l q q' Q := by
  cases o with
  | own d u => cases hq; exact ok_own m K c l q Q d u
  | send x => cases hq; exact ok_send m K c l q Q x
  | loc d s u => cases hq; exact ok_loc m K c l q Q d s u
  | await x => cases hq; exact ok_await m K c l q Q x hw
  | red d s u =>
    rcases q with _ | ⟨r, q₁⟩
    · cases hq
    · simp only [queue] at hq
      by_cases e : r = .loc d s.castSucc u
      · rw [if_pos e] at hq; cases hq; subst e; exact ok_red m K c l _ Q d s u
      · rw [if_neg e] at hq; cases hq
  | fin d u =>
    rcases q with _ | ⟨r, q₁⟩
    · cases hq
    · simp only [queue] at hq
      by_cases e : r = .loc d 2 u
      · rw [if_pos e] at hq; cases hq; subst e; exact ok_fin m K c l _ Q d u
      · rw [if_neg e] at hq; cases hq
  | zred d t => cases hq; exact ok_zred m K c l q Q d t
  | zfin d => cases hq; exact ok_zfin m K c l q Q d
  | gelu =>
    rcases q with _ | ⟨r, _ | ⟨r', q₁⟩⟩
    · cases hq
    · cases hq
    · simp only [queue] at hq
      by_cases e : r = .zf 0 ∧ r' = .zf 1
      · rw [if_pos e] at hq; cases hq; obtain ⟨rfl, rfl⟩ := e; exact ok_gelu m K c l _ Q
      · rw [if_neg e] at hq; cases hq
  | flz d h => cases hq; exact ok_flz m K c l q Q d h
  | flp d k h => cases hq; exact ok_flp m K c l q Q d k h

end

/-- A list of steps that can be carried out runs, from what it uses to what it leaves. -/
theorem steps_ok (K : Dev nD × CIx → ℕ) (c : Dev nD) (Q : PUnit.{1} → sProp 𝕄) : ∀ (l : List Op) (σ σ' : St), steps l σ = some σ' →
    (iprop(records m K ∗ (opA m c ∗ opB m c) ∗ hold m c σ.items ∗ debt c (owe c (sends l)))
      ⊢ iprop(((opA m c ∗ opB m c) ∗ hold m c σ'.items ∗ debt c 0 -∗ |={Set.univ}=> Q ⟨⟩) -∗ run c (exec c l (σ.q.map (regv m c))) Q))
  | [], σ, σ', h => by
    unfold steps at h; cases h
    simp only [exec, sends, owe, wp_ret]
    iintro ⟨-, H⟩ Hk
    iapply Hk
    iexact H
  | o :: l, σ, σ', h => by
    unfold steps at h
    obtain ⟨τ', hs, hr⟩ := Option.bind_eq_some_iff.mp h
    unfold step at hs
    by_cases hw : waitOk l o = true
    · rw [if_pos hw] at hs
      obtain ⟨is, hi, hs⟩ := Option.bind_eq_some_iff.mp hs
      obtain ⟨q', hq, rfl⟩ := Option.map_eq_some_iff.mp hs
      have h1 := hold_takeAll m c _ _ _ hi
      have h2 := step_ok m K c l σ.q Q o q' hw hq
      have h3 := steps_ok K c Q l _ σ' hr
      unfold StepOk at h2
      iintro ⟨#HR, HAB, Hh, HO⟩ Hk
      ihave H := h1 $$ Hh
      icases H with ⟨Hn, His⟩
      iapply h2 $$ [HAB Hn HO]
      · isplitr; · iexact HR
        isplitl [HAB]; · iexact HAB
        isplitl [Hn] <;> iassumption
      iintro ⟨HAB, Hg, HO⟩
      iapply h3 $$ [HAB Hg His HO]
      · isplitr; · iexact HR
        isplitl [HAB]; · iexact HAB
        isplitl [Hg His]
        · iapply (hold_append m c (give o) is).2
          isplitl [Hg] <;> iassumption
        iexact HO
      iexact Hk
    · rw [if_neg hw] at hs; cases hs

end Cert.KernelIdeal.Mesh
-- ==== Proof.Parts.lean ====
/-
  The buffers and their parts: cutting the scratch buffers and the result into what the steps use, and putting
  them together again.
-/
module

public import proofs.«01_k».proof.Proof.Exec
public import Idealize.ShloMosaic.Lib.Ring

@[expose] public section

set_option maxRecDepth 10000

noncomputable section

namespace Cert.KernelIdeal.Mesh

open Cert.KernelIdeal Cert.KernelIdeal.Gen
open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ)

/-! ## Lists of resources -/

/-- All of a list. -/
def chain : List (sProp 𝕄) → sProp 𝕄
  | [] => iprop(emp)
  | P :: l => iprop(P ∗ chain l)

omit [FloatOps F] in
theorem chain_append (l l' : List (sProp 𝕄)) : chain (F := F) (l ++ l') = iprop(chain l ∗ chain l') := by
  induction l with
  | nil => exact Entails.antisymm (emp_sep (PROP := sProp 𝕄)).2 (emp_sep (PROP := sProp 𝕄)).1
  | cons P l ih =>
    show iprop(P ∗ chain (l ++ l')) = iprop((P ∗ chain l) ∗ chain l')
    rw [ih]
    exact Entails.antisymm (sep_assoc (PROP := sProp 𝕄)).2 (sep_assoc (PROP := sProp 𝕄)).1

omit [FloatOps F] in
theorem chain_toFinset {α : Type} [DecidableEq α] (Φ : α → sProp 𝕄) : ∀ l : List α, l.Nodup → bigSep l.toFinset Φ = chain (l.map Φ)
  | [], _ => bigSep_empty
  | a :: l, h => by
    rw [List.toFinset_cons, bigSep_insert (fun h' => (List.nodup_cons.mp h).1 (List.mem_toFinset.mp h')), chain_toFinset Φ l (List.nodup_cons.mp h).2]
    rfl

omit [FloatOps F] in
/-- All of a finite type, by a list of it. -/
theorem chain_univ {α : Type} [DecidableEq α] [Fintype α] (l : List α) (hn : l.Nodup) (hm : ∀ a, a ∈ l) (Φ : α → sProp 𝕄) :
    bigSep Finset.univ Φ = chain (l.map Φ) := by
  rw [← chain_toFinset Φ l hn, Finset.eq_univ_iff_forall.mpr fun a => List.mem_toFinset.mpr (hm a)]

theorem hold_chain (c : Dev nD) (l : List Item) : hold m c l = chain (l.map (own m c)) := by
  induction l with
  | nil => rfl
  | cons i l ih =>
    show iprop(own m c i ∗ hold m c l) = iprop(own m c i ∗ chain (l.map (own m c)))
    rw [ih]

theorem hold_append_eq (c : Dev nD) (l l' : List Item) : hold m c (l ++ l') = iprop(hold m c l ∗ hold m c l') :=
  Entails.antisymm (hold_append m c l l').1 (hold_append m c l l').2

theorem hold_map {α : Type} (c : Dev nD) (f : α → Item) (l : List α) : hold m c (l.map f) = chain (l.map fun a => own m c (f a)) := by
  rw [hold_chain, List.map_map]; rfl

/-- Written slots, all their shares held, are slots. -/
theorem hold_pcs_all (c : Dev nD) : ∀ l : List Slot, hold m c (l.flatMap pcs) ⊢ chain (l.map fun b => slotFree c b)
  | [] => Entails.refl _
  | b :: l => by
    rw [List.flatMap_cons, hold_append_eq]
    exact BI.sep_mono (pcs_hold m c b) (hold_pcs_all c l)

/-! ## Cutting a buffer -/

/-- Sets told apart by a key are disjoint and cover. -/
theorem blocks_of_key {ι B : Type} [Fintype ι] [DecidableEq ι] [Fintype B] [DecidableEq B] (I : B → Finset ι) (key : ι → B)
    (h : ∀ b i, i ∈ I b ↔ key i = b) : (∀ b b', b ≠ b' → Disjoint (I b) (I b')) ∧ Finset.univ.biUnion I = Finset.univ :=
  ⟨fun b b' hb => Finset.disjoint_left.mpr fun i hi hi' => hb (((h b i).mp hi).symm.trans ((h b' i).mp hi')),
    Finset.eq_univ_iff_forall.mpr fun i => Finset.mem_biUnion.mpr ⟨key i, Finset.mem_univ _, (h _ i).mpr rfl⟩⟩

omit [FloatOps F] in
include m in
/-- A buffer whatever it holds is its parts whatever they hold. -/
theorem cut {B : Type} [Fintype B] [DecidableEq B] (ℓ : Loc nD τ sig) (I : B → Finset (Idx ℓ))
    (hI : (∀ b b', b ≠ b' → Disjoint (I b) (I b')) ∧ Finset.univ.biUnion I = Finset.univ)
    (Φ : B → sProp 𝕄) (hΦ : ∀ b, Φ b = iprop(∃ f : Buf (Elt F) ℓ, ℓ ↦[I b]{fullShare} f)) :
    (iprop(∃ f : Buf (Elt F) ℓ, ℓ ↦{fullShare} f) : sProp 𝕄) = bigSep Finset.univ Φ := by
  rw [bigSep_congr fun b _ => hΦ b]
  have h : (iprop(∃ f : Buf (Elt F) ℓ, ℓ ↦{fullShare} f) : sProp 𝕄) ⊢ bigSep Finset.univ fun b => iprop(∃ f : Buf (Elt F) ℓ, ℓ ↦[I b]{fullShare} f) := by
    iintro ⟨%f, H⟩
    have h0 : ∀ b, (ℓ ↦[I b]{fullShare} f : sProp 𝕄) ⊢ iprop(∃ f : Buf (Elt F) ℓ, ℓ ↦[I b]{fullShare} f) := fun b => by
      iintro H; iexists f; iexact H
    have h1 : (ℓ ↦{fullShare} f : sProp 𝕄) ⊢ bigSep Finset.univ fun b => iprop(∃ f : Buf (Elt F) ℓ, ℓ ↦[I b]{fullShare} f) :=
      (Entails.of_eq (Ring.pointsTo_blocks I hI.1 hI.2 f)).trans (bigSep_mono fun b _ => h0 b)
    iapply h1; iexact H
  exact Entails.antisymm h (Ring.pointsTo_blocks_join_exists I hI.1 hI.2 (m ℓ))

omit [FloatOps F] in
/-- The parts at one contents are the buffer. -/
theorem joined {B : Type} [Fintype B] [DecidableEq B] (ℓ : Loc nD τ sig) (I : B → Finset (Idx ℓ))
    (hI : (∀ b b', b ≠ b' → Disjoint (I b) (I b')) ∧ Finset.univ.biUnion I = Finset.univ) (f : Buf (Elt F) ℓ)
    (Φ : B → sProp 𝕄) (hΦ : ∀ b, Φ b = (ℓ ↦[I b]{fullShare} f : sProp 𝕄)) :
    bigSep Finset.univ Φ = (ℓ ↦{fullShare} f : sProp 𝕄) := by
  rw [bigSep_congr fun b _ => hΦ b]
  exact (Ring.pointsTo_blocks I hI.1 hI.2 f).symm

/-! ### The slots' rectangles -/

theorem mem5 (d : Fin 2) (s : Fin 3) (u : Fin 4) (i : S2x3x4x96x768.Idx) :
    i ∈ (Rect.unit (s := S2x3x4x96x768) ![d.val, s.val, u.val, 0, 0] S1x1x1x96x768.size (inb5 d s u)).set
      ↔ (((i 0 : Fin 2), (i 1 : Fin 3), (i 2 : Fin 4)) : Fin 2 × Fin 3 × Fin 4) = (d, s, u) := by
  rw [Rect.mem_set_unit]
  constructor
  · intro h
    have h0 : d.val ≤ (i 0).val ∧ (i 0).val < d.val + 1 := h 0
    have h1 : s.val ≤ (i 1).val ∧ (i 1).val < s.val + 1 := h 1
    have h2 : u.val ≤ (i 2).val ∧ (i 2).val < u.val + 1 := h 2
    exact Prod.ext (Fin.ext (by show (i 0).val = d.val; omega)) (Prod.ext (Fin.ext (by show (i 1).val = s.val; omega)) (Fin.ext (by show (i 2).val = u.val; omega)))
  · intro h
    obtain ⟨rfl, h'⟩ := Prod.mk.inj h
    obtain ⟨rfl, rfl⟩ := Prod.mk.inj h'
    exact fun | 0 => ⟨le_rfl, Nat.lt_succ_self _⟩ | 1 => ⟨le_rfl, Nat.lt_succ_self _⟩ | 2 => ⟨le_rfl, Nat.lt_succ_self _⟩
              | 3 => ⟨Nat.zero_le _, (Nat.lt_of_lt_of_eq (i 3).isLt (Nat.zero_add _).symm)⟩ | 4 => ⟨Nat.zero_le _, (Nat.lt_of_lt_of_eq (i 4).isLt (Nat.zero_add _).symm)⟩

theorem mem5' (d : Fin 2) (k : Fin 4) (h : Fin 3) (i : S2x4x3x96x768.Idx) :
    i ∈ (Rect.unit (s := S2x4x3x96x768) ![d.val, k.val, h.val, 0, 0] S1x1x1x96x768.size (inb5' d k h)).set
      ↔ (((i 0 : Fin 2), (i 1 : Fin 4), (i 2 : Fin 3)) : Fin 2 × Fin 4 × Fin 3) = (d, k, h) := by
  rw [Rect.mem_set_unit]
  constructor
  · intro hi
    have h0 : d.val ≤ (i 0).val ∧ (i 0).val < d.val + 1 := hi 0
    have h1 : k.val ≤ (i 1).val ∧ (i 1).val < k.val + 1 := hi 1
    have h2 : h.val ≤ (i 2).val ∧ (i 2).val < h.val + 1 := hi 2
    exact Prod.ext (Fin.ext (by show (i 0).val = d.val; omega)) (Prod.ext (Fin.ext (by show (i 1).val = k.val; omega)) (Fin.ext (by show (i 2).val = h.val; omega)))
  · intro hi
    obtain ⟨rfl, hi'⟩ := Prod.mk.inj hi
    obtain ⟨rfl, rfl⟩ := Prod.mk.inj hi'
    exact fun | 0 => ⟨le_rfl, Nat.lt_succ_self _⟩ | 1 => ⟨le_rfl, Nat.lt_succ_self _⟩ | 2 => ⟨le_rfl, Nat.lt_succ_self _⟩
              | 3 => ⟨Nat.zero_le _, (Nat.lt_of_lt_of_eq (i 3).isLt (Nat.zero_add _).symm)⟩ | 4 => ⟨Nat.zero_le _, (Nat.lt_of_lt_of_eq (i 4).isLt (Nat.zero_add _).symm)⟩

theorem mem4 (d : Fin 2) (t : Fin 3) (i : S2x3x96x768.Idx) :
    i ∈ (Rect.unit (s := S2x3x96x768) ![d.val, t.val, 0, 0] S1x1x96x768.size (inb4 d t)).set ↔ (((i 0 : Fin 2), (i 1 : Fin 3)) : Fin 2 × Fin 3) = (d, t) := by
  rw [Rect.mem_set_unit]
  constructor
  · intro h
    have h0 : d.val ≤ (i 0).val ∧ (i 0).val < d.val + 1 := h 0
    have h1 : t.val ≤ (i 1).val ∧ (i 1).val < t.val + 1 := h 1
    exact Prod.ext (Fin.ext (by show (i 0).val = d.val; omega)) (Fin.ext (by show (i 1).val = t.val; omega))
  · intro h
    obtain ⟨rfl, rfl⟩ := Prod.mk.inj h
    exact fun | 0 => ⟨le_rfl, Nat.lt_succ_self _⟩ | 1 => ⟨le_rfl, Nat.lt_succ_self _⟩
              | 2 => ⟨Nat.zero_le _, (Nat.lt_of_lt_of_eq (i 2).isLt (Nat.zero_add _).symm)⟩ | 3 => ⟨Nat.zero_le _, (Nat.lt_of_lt_of_eq (i 3).isLt (Nat.zero_add _).symm)⟩

theorem memP (d : Fin 2) (u : Fin 4) (i : S2x4x96x768.Idx) : i ∈ (predRect d u).set ↔ (((i 0 : Fin 2), (i 1 : Fin 4)) : Fin 2 × Fin 4) = (d, u) := by
  rw [Rect.mem_set_unit]
  constructor
  · intro h
    have h0 : d.val ≤ (i 0).val ∧ (i 0).val < d.val + 1 := h 0
    have h1 : u.val ≤ (i 1).val ∧ (i 1).val < u.val + 1 := h 1
    exact Prod.ext (Fin.ext (by show (i 0).val = d.val; omega)) (Fin.ext (by show (i 1).val = u.val; omega))
  · intro h
    obtain ⟨rfl, rfl⟩ := Prod.mk.inj h
    exact fun | 0 => ⟨le_rfl, Nat.lt_succ_self _⟩ | 1 => ⟨le_rfl, Nat.lt_succ_self _⟩
              | 2 => ⟨Nat.zero_le _, (Nat.lt_of_lt_of_eq (i 2).isLt (Nat.zero_add _).symm)⟩ | 3 => ⟨Nat.zero_le _, (Nat.lt_of_lt_of_eq (i 3).isLt (Nat.zero_add _).symm)⟩

theorem mem3 (d : Fin 2) (i : S2x96x768.Idx) :
    i ∈ (Rect.unit (s := S2x96x768) ![d.val, 0, 0] S1x96x768.size (inb3 d)).set ↔ (i 0 : Fin 2) = d := by
  rw [Rect.mem_set_unit]
  constructor
  · intro h
    have h0 : d.val ≤ (i 0).val ∧ (i 0).val < d.val + 1 := h 0
    exact Fin.ext (by show (i 0).val = d.val; omega)
  · rintro rfl
    exact fun | 0 => ⟨le_rfl, Nat.lt_succ_self _⟩
              | 1 => ⟨Nat.zero_le _, (Nat.lt_of_lt_of_eq (i 1).isLt (Nat.zero_add _).symm)⟩ | 2 => ⟨Nat.zero_le _, (Nat.lt_of_lt_of_eq (i 2).isLt (Nat.zero_add _).symm)⟩

/-! ### The buffers -/

/-- A scratch buffer, whatever it holds. -/
abbrev buf (c : Dev nD) (b : Ref sig .tc) : sProp 𝕄 :=
  iprop(∃ f : Buf (Elt F) ((c : Thread nD τ).loc b), ((c : Thread nD τ).loc b) ↦{fullShare} f)

/-- The rectangles of one buffer. -/
def fam5 (p : Fin 2 × Fin 3 × Fin 4) : Finset S2x3x4x96x768.Idx := (Rect.unit (s := S2x3x4x96x768) ![p.1.val, p.2.1.val, p.2.2.val, 0, 0] S1x1x1x96x768.size (inb5 p.1 p.2.1 p.2.2)).set
theorem blocks5 : (∀ b b', b ≠ b' → Disjoint (fam5 b) (fam5 b')) ∧ Finset.univ.biUnion fam5 = Finset.univ :=
  blocks_of_key fam5 (fun i : S2x3x4x96x768.Idx => (((i 0 : Fin 2), (i 1 : Fin 3), (i 2 : Fin 4)) : Fin 2 × Fin 3 × Fin 4)) fun p i => mem5 _ _ _ _

/-- The rectangles of one buffer. -/
def fam5' (p : Fin 2 × Fin 4 × Fin 3) : Finset S2x4x3x96x768.Idx := (Rect.unit (s := S2x4x3x96x768) ![p.1.val, p.2.1.val, p.2.2.val, 0, 0] S1x1x1x96x768.size (inb5' p.1 p.2.1 p.2.2)).set
theorem blocks5' : (∀ b b', b ≠ b' → Disjoint (fam5' b) (fam5' b')) ∧ Finset.univ.biUnion fam5' = Finset.univ :=
  blocks_of_key fam5' (fun i : S2x4x3x96x768.Idx => (((i 0 : Fin 2), (i 1 : Fin 4), (i 2 : Fin 3)) : Fin 2 × Fin 4 × Fin 3)) fun p i => mem5' _ _ _ _

/-- The rectangles of one buffer. -/
def fam4 (p : Fin 2 × Fin 3) : Finset S2x3x96x768.Idx := (Rect.unit (s := S2x3x96x768) ![p.1.val, p.2.val, 0, 0] S1x1x96x768.size (inb4 p.1 p.2)).set
theorem blocks4 : (∀ b b', b ≠ b' → Disjoint (fam4 b) (fam4 b')) ∧ Finset.univ.biUnion fam4 = Finset.univ :=
  blocks_of_key fam4 (fun i : S2x3x96x768.Idx => (((i 0 : Fin 2), (i 1 : Fin 3)) : Fin 2 × Fin 3)) fun p i => mem4 _ _ _

/-- The rectangles of one buffer. -/
def fam3 (p : Fin 2) : Finset S2x96x768.Idx := (Rect.unit (s := S2x96x768) ![p.val, 0, 0] S1x96x768.size (inb3 p)).set
theorem blocks3 : (∀ b b', b ≠ b' → Disjoint (fam3 b) (fam3 b')) ∧ Finset.univ.biUnion fam3 = Finset.univ :=
  blocks_of_key fam3 (fun i : S2x96x768.Idx => ((i 0 : Fin 2) : Fin 2)) fun p i => mem3 _ _

/-- The rectangles of one buffer. -/
def famP (p : Fin 2 × Fin 4) : Finset S2x4x96x768.Idx := (predRect p.1 p.2).set
theorem blocksP : (∀ b b', b ≠ b' → Disjoint (famP b) (famP b')) ∧ Finset.univ.biUnion famP = Finset.univ :=
  blocks_of_key famP (fun i : S2x4x96x768.Idx => (((i 0 : Fin 2), (i 1 : Fin 4)) : Fin 2 × Fin 4)) fun p i => memP _ _ _

section
variable (c : Dev nD)

omit [FloatOps F] in
theorem slotFree_set (b : Slot) (r : Finset (Idx ((slotM b).view.loc (c : Thread nD τ)))) (h : (slotM b).view.set = r) :
    slotFree (F := F) c b = iprop(∃ f, (slotM b).view.loc (c : Thread nD τ) ↦[r]{fullShare} f) := by
  unfold slotFree slotAt; rw [h]

include m

omit [FloatOps F] in
theorem cut_ps : buf (F := F) c cc0_scratch2 = bigSep Finset.univ fun p : Fin 2 × Fin 3 × Fin 4 => slotFree c (.ps p.1 p.2.1 p.2.2) :=
  cut m ((c : Thread nD τ).loc cc0_scratch2) fam5 blocks5 _ fun p => slotFree_set c (.ps p.1 p.2.1 p.2.2) (fam5 p) ((View.set_reshape _ _).trans (View.set_slice_whole _ _))

omit [FloatOps F] in
theorem cut_pr : buf (F := F) c cc0_scratch3 = bigSep Finset.univ fun p : Fin 2 × Fin 3 × Fin 4 => slotFree c (.pr p.1 p.2.1 p.2.2) :=
  cut m ((c : Thread nD τ).loc cc0_scratch3) fam5 blocks5 _ fun p => slotFree_set c (.pr p.1 p.2.1 p.2.2) (fam5 p) ((View.set_reshape _ _).trans (View.set_slice_whole _ _))

omit [FloatOps F] in
theorem cut_gp : buf (F := F) c cc0_scratch9 = bigSep Finset.univ fun p : Fin 2 × Fin 4 × Fin 3 => slotFree c (.gp p.1 p.2.1 p.2.2) :=
  cut m ((c : Thread nD τ).loc cc0_scratch9) fam5' blocks5' _ fun p => slotFree_set c (.gp p.1 p.2.1 p.2.2) (fam5' p) ((View.set_reshape _ _).trans (View.set_slice_whole _ _))

omit [FloatOps F] in
theorem cut_zs : buf (F := F) c cc0_scratch4 = bigSep Finset.univ fun p : Fin 2 × Fin 3 => slotFree c (.zs p.1 p.2) :=
  cut m ((c : Thread nD τ).loc cc0_scratch4) fam4 blocks4 _ fun p => slotFree_set c (.zs p.1 p.2) (fam4 p) ((View.set_reshape _ _).trans (View.set_slice_whole _ _))

omit [FloatOps F] in
theorem cut_zr : buf (F := F) c cc0_scratch5 = bigSep Finset.univ fun p : Fin 2 × Fin 3 => slotFree c (.zr p.1 p.2) :=
  cut m ((c : Thread nD τ).loc cc0_scratch5) fam4 blocks4 _ fun p => slotFree_set c (.zr p.1 p.2) (fam4 p) ((View.set_reshape _ _).trans (View.set_slice_whole _ _))

omit [FloatOps F] in
theorem cut_gz : buf (F := F) c cc0_scratch8 = bigSep Finset.univ fun p : Fin 2 × Fin 3 => slotFree c (.gz p.1 p.2) :=
  cut m ((c : Thread nD τ).loc cc0_scratch8) fam4 blocks4 _ fun p => slotFree_set c (.gz p.1 p.2) (fam4 p) ((View.set_reshape _ _).trans (View.set_slice_whole _ _))

omit [FloatOps F] in
theorem cut_ag : buf (F := F) c cc0_scratch7 = bigSep Finset.univ fun p : Fin 2 => slotFree c (.ag p) :=
  cut m ((c : Thread nD τ).loc cc0_scratch7) fam3 blocks3 _ fun p => slotFree_set c (.ag p) (fam3 p) ((View.set_reshape _ _).trans (View.set_slice_whole _ _))

omit [FloatOps F] in
theorem cut_pred : buf (F := F) c cc0_scratch6 = bigSep Finset.univ fun p : Fin 2 × Fin 4 => predFree c p.1 p.2 :=
  cut m ((c : Thread nD τ).loc cc0_scratch6) famP blocksP _ fun p => by
    unfold predFree predAt; rw [show (predM.access (predRect p.1 p.2)).set = famP p from View.set_slice_whole _ _]

end

/-! ### The result -/

instance : Fintype Blk :=
  Fintype.ofEquiv (Fin 2 ⊕ (Fin 2 × Fin 3) ⊕ (Fin 2 × Fin 4 × Fin 3))
    { toFun := fun
        | .inl d => .own d
        | .inr (.inl (d, h)) => .z d h
        | .inr (.inr (d, k, h)) => .p d k h
      invFun := fun
        | .own d => .inl d
        | .z d h => .inr (.inl (d, h))
        | .p d k h => .inr (.inr (d, k, h))
      left_inv := fun x => by rcases x with d | ⟨d, h⟩ | ⟨d, k, h⟩ <;> rfl
      right_inv := fun x => by cases x <;> rfl }

/-- A device's blocks, one for each half and each device that computes one. -/
theorem blk_unique : ∀ (c : Dev nD) (b b' : Blk), blkHalf b = blkHalf b' → blkDev b c = blkDev b' c → b = b' := by decide +kernel
theorem blk_exists : ∀ (c c' : Dev nD) (d : Fin 2), ∃ b : Blk, blkHalf b = d ∧ blkDev b c = c' := by decide +kernel

theorem mem_out (c : Dev nD) (b : Blk) (i : S1536x1536.Idx) :
    i ∈ (outRect c b).set ↔ (i 0).val / 96 = rowBlk (blkHalf b) (blkDev b c) ∧ (i 1).val / 768 = (blkHalf b).val := by
  rw [Rect.mem_set_unit, outOff_blk c b]
  constructor
  · intro h
    have h0 : 96 * rowBlk (blkHalf b) (blkDev b c) ≤ (i 0).val ∧ (i 0).val < 96 * rowBlk (blkHalf b) (blkDev b c) + 96 := h 0
    have h1 : 768 * (blkHalf b).val ≤ (i 1).val ∧ (i 1).val < 768 * (blkHalf b).val + 768 := h 1
    omega
  · rintro ⟨h0, h1⟩
    exact fun | 0 => (show 96 * rowBlk (blkHalf b) (blkDev b c) ≤ (i 0).val ∧ (i 0).val < 96 * rowBlk (blkHalf b) (blkDev b c) + 96 by omega)
              | 1 => (show 768 * (blkHalf b).val ≤ (i 1).val ∧ (i 1).val < 768 * (blkHalf b).val + 768 by omega)

theorem out_blocks (c : Dev nD) :
    (∀ b b' : Blk, b ≠ b' → Disjoint (outRect c b).set (outRect c b').set) ∧ Finset.univ.biUnion (fun b : Blk => (outRect c b).set) = Finset.univ := by
  constructor
  · refine fun b b' hb => Finset.disjoint_left.mpr fun i hi hi' => hb ?_
    obtain ⟨h0, h1⟩ := (mem_out c b i).mp hi
    obtain ⟨h0', h1'⟩ := (mem_out c b' i).mp hi'
    have hh : blkHalf b = blkHalf b' := Fin.ext (h1.symm.trans h1')
    rw [h0, hh] at h0'
    exact blk_unique c b b' hh (rowBlk_inj _ _ _ h0')
  · refine Finset.eq_univ_iff_forall.mpr fun i => ?_
    have i0 : (i 0).val < 1536 := (i 0).isLt
    have i1 : (i 1).val < 1536 := (i 1).isLt
    obtain ⟨c', hc⟩ := rowBlk_surj ⟨(i 1).val / 768, by omega⟩ ⟨(i 0).val / 96, by omega⟩
    obtain ⟨b, hd, hb⟩ := blk_exists c c' ⟨(i 1).val / 768, by omega⟩
    exact Finset.mem_biUnion.mpr ⟨b, Finset.mem_univ _, (mem_out c b i).mpr ⟨by rw [hd, hb, hc], by rw [hd]⟩⟩

omit [FloatOps F] in
theorem out_set (c : Dev nD) (b : Blk) : (outM.access (outRect c b)).set = (outRect c b).set := View.set_slice_whole _ _

omit [FloatOps F] in
include m in
theorem cut_out (c : Dev nD) : buf (F := F) c cc0_stg2_0 = bigSep Finset.univ fun b : Blk => outFree c b :=
  cut m ((c : Thread nD τ).loc cc0_stg2_0) (fun b : Blk => (outRect c b).set) (out_blocks c) _ fun b => by unfold outFree outAt; rw [out_set]

/-- The blocks are the whole result. -/
theorem join_out (c : Dev nD) : (bigSep Finset.univ fun b : Blk => outPts m c b)
    = (((c : Thread nD τ).loc cc0_stg2_0) ↦{fullShare} (outv m) : sProp 𝕄) :=
  joined ((c : Thread nD τ).loc cc0_stg2_0) (fun b : Blk => (outRect c b).set) (out_blocks c) (outv m) (fun b => outPts m c b) fun b => by
    unfold outPts outAt; rw [out_set]

/-! ## The lists a device starts and ends with -/

def l234 : List (Fin 2 × Fin 3 × Fin 4) := (List.finRange 2).flatMap fun d => (List.finRange 3).flatMap fun s => (List.finRange 4).map fun u => (d, s, u)
def l243 : List (Fin 2 × Fin 4 × Fin 3) := (List.finRange 2).flatMap fun d => (List.finRange 4).flatMap fun s => (List.finRange 3).map fun u => (d, s, u)
def l23 : List (Fin 2 × Fin 3) := (List.finRange 2).flatMap fun d => (List.finRange 3).map fun s => (d, s)
def l2 : List (Fin 2) := List.finRange 2

theorem all234 : l234.Nodup ∧ ∀ p, p ∈ l234 := by decide +kernel
theorem all243 : l243.Nodup ∧ ∀ p, p ∈ l243 := by decide +kernel
theorem all23 : l23.Nodup ∧ ∀ p, p ∈ l23 := by decide +kernel
theorem all2 : l2.Nodup ∧ ∀ p, p ∈ l2 := by decide +kernel
theorem allPred : predList.Nodup ∧ ∀ p, p ∈ predList := by decide +kernel
theorem allBlk : blkList.Nodup ∧ ∀ b, b ∈ blkList := by decide +kernel
theorem allMsg : msgList.Nodup ∧ ∀ x, x ∈ msgList := by decide +kernel

theorem homeList_eq : homeList = l234.map (fun p => .ps p.1 p.2.1 p.2.2) ++ l23.map (fun p => .zs p.1 p.2) ++ l2.map .ag := by decide +kernel
theorem dstList_eq : msgList.map dstSlot = l234.map (fun p => .pr p.1 p.2.1 p.2.2) ++ l23.map (fun p => .zr p.1 p.2)
    ++ l23.map (fun p => .gz p.1 p.2) ++ l243.map (fun p => .gp p.1 p.2.1 p.2.2) := by decide +kernel

section
variable (c : Dev nD)
include m

omit [FloatOps F] in
/-- The buffers messages do not land in, slot by slot. -/
theorem homes_eq : iprop((buf (F := F) c cc0_scratch2 ∗ buf c cc0_scratch4) ∗ buf c cc0_scratch7) = chain (homeList.map fun b => slotFree c b) := by
  rw [homeList_eq, List.map_append, List.map_append, chain_append, chain_append, List.map_map, List.map_map, List.map_map, cut_ps m, cut_zs m, cut_ag m,
    chain_univ _ all234.1 all234.2, chain_univ _ all23.1 all23.2, chain_univ _ all2.1 all2.2]
  rfl

omit [FloatOps F] in
/-- The buffers messages land in, message by message. -/
theorem dsts_eq : iprop(((buf (F := F) c cc0_scratch3 ∗ buf c cc0_scratch5) ∗ buf c cc0_scratch8) ∗ buf c cc0_scratch9)
    = chain ((msgList.map dstSlot).map fun b => slotFree c b) := by
  rw [dstList_eq, List.map_append, List.map_append, List.map_append, chain_append, chain_append, chain_append, List.map_map, List.map_map, List.map_map, List.map_map,
    cut_pr m, cut_zr m, cut_gz m, cut_gp m,
    chain_univ _ all234.1 all234.2, chain_univ _ all23.1 all23.2, chain_univ _ all23.1 all23.2, chain_univ _ all243.1 all243.2]
  rfl

omit [FloatOps F] in
theorem preds_eq : buf (F := F) c cc0_scratch6 = chain (predList.map fun p => predFree c p.1 p.2) := by
  rw [cut_pred m, chain_univ _ allPred.1 allPred.2]

omit [FloatOps F] in
theorem outs_eq : buf (F := F) c cc0_stg2_0 = chain (blkList.map fun b => outFree c b) := by
  rw [cut_out m, chain_univ _ allBlk.1 allBlk.2]

end

theorem outs_join (c : Dev nD) : chain (blkList.map fun b => outPts m c b) = (((c : Thread nD τ).loc cc0_stg2_0) ↦{fullShare} (outv m) : sProp 𝕄) := by
  rw [← join_out, chain_univ _ allBlk.1 allBlk.2]

omit [FloatOps F] in
theorem chain_mono {α : Type} (l : List α) (Φ Ψ : α → sProp 𝕄) (h : ∀ a, Φ a ⊢ Ψ a) : chain (F := F) (l.map Φ) ⊢ chain (l.map Ψ) := by
  induction l with
  | nil => exact Entails.refl _
  | cons a l ih => exact BI.sep_mono (h a) ih

theorem predPts_free (c : Dev nD) (d : Fin 2) (u : Fin 4) : predPts m c d u ⊢ predFree c d u := by
  unfold predPts predFree
  iintro ⟨%f, H, -⟩
  iexists f; iexact H

/-- What a device starts with, as the steps' list. -/
theorem hold_init (c : Dev nD) :
    iprop(((buf c cc0_scratch2 ∗ buf c cc0_scratch4) ∗ buf c cc0_scratch7) ∗ buf c cc0_scratch6 ∗ buf c cc0_stg2_0
        ∗ (bigSep Finset.univ fun x : Msg => todoR c x) ∗ (bigSep Finset.univ fun x : Msg => dueR c x))
      ⊢ hold m c init := by
  unfold init
  rw [hold_append_eq, hold_append_eq, hold_append_eq, hold_append_eq, hold_map, hold_map, hold_map, hold_map, hold_map, homes_eq m, preds_eq m, outs_eq m,
    chain_univ _ allMsg.1 allMsg.2, chain_univ _ allMsg.1 allMsg.2]
  exact Entails.refl _

/-- What a device ends with, as buffers. -/
theorem hold_final (c : Dev nD) :
    hold m c final ⊢ iprop(((buf c cc0_scratch2 ∗ buf c cc0_scratch4) ∗ buf c cc0_scratch7)
      ∗ (((buf c cc0_scratch3 ∗ buf c cc0_scratch5) ∗ buf c cc0_scratch8) ∗ buf c cc0_scratch9)
      ∗ buf c cc0_scratch6 ∗ (((c : Thread nD τ).loc cc0_stg2_0) ↦{fullShare} (outv m))
      ∗ (bigSep Finset.univ fun x : Msg => doneR c x)) := by
  unfold final
  rw [hold_append_eq, hold_append_eq, hold_append_eq, hold_append_eq, hold_map, hold_map, hold_map, homes_eq m, dsts_eq m, preds_eq m, ← outs_join,
    chain_univ _ allMsg.1 allMsg.2]
  exact BI.sep_mono (hold_pcs_all m c _) (BI.sep_mono (hold_pcs_all m c _) (BI.sep_mono (chain_mono _ _ _ fun p => predPts_free m c p.1 p.2) (Entails.refl _)))

/-! ## The barrier's payloads -/

theorem opp_image : Finset.univ.image (fun x : Msg => opp x.dir) = Finset.univ := by decide +kernel

omit [FloatOps F] in
/-- Everything by messages is everything by directions. -/
theorem by_dir (Φ : Msg → sProp 𝕄) :
    bigSep Finset.univ Φ = bigSep Finset.univ fun j : Fin 4 => bigSep (Finset.univ.filter fun x : Msg => x.dir = opp j) Φ := by
  rw [bigSep_fiberwise Finset.univ (fun x : Msg => opp x.dir), opp_image]
  refine bigSep_congr fun j _ => ?_
  rw [Finset.filter_congr fun x _ => (show opp x.dir = j ↔ x.dir = opp j from ⟨fun h => by rw [← h, opp_opp], fun h => by rw [h, opp_opp]⟩)]

omit [FloatOps F] in
/-- What the neighbours' signals bring together: every slot this device's messages land in. -/
theorem barPay_all (c : Dev nD) : (bigSep Finset.univ fun j => barPay (F := F) c j) = bigSep Finset.univ fun x : Msg => slotFree (tgt x c) (dstSlot x) :=
  (by_dir _).symm

omit [FloatOps F] in
include m in
/-- What this device's signals hand over together: its own slots that messages land in. -/
theorem barPay_own (c : Dev nD) : iprop(((buf (F := F) c cc0_scratch3 ∗ buf c cc0_scratch5) ∗ buf c cc0_scratch8) ∗ buf c cc0_scratch9)
    = bigSep Finset.univ fun j => barPay (nbr j c) j := by
  rw [dsts_eq m, List.map_map, show ((fun b => slotFree (F := F) c b) ∘ dstSlot) = fun x => slotFree c (dstSlot x) from rfl,
    ← chain_univ _ allMsg.1 allMsg.2 (fun x => slotFree c (dstSlot x)), by_dir]
  refine bigSep_congr fun j _ => bigSep_congr fun x hx => ?_
  have h : tgt x (nbr j c) = c := by unfold tgt; rw [(Finset.mem_filter.mp hx).2]; exact nbr_opp j c
  rw [h]

end Cert.KernelIdeal.Mesh
-- ==== Proof.BodyEq.lean ====
/-
  The body of the kernel is the list of steps of `Mesh`.
-/
module

public import proofs.«01_k».proof.Proof.Mesh
public import proofs.«01_k».proof.Proof.Gen.KernelIdeal.Points

@[expose] public section

namespace Cert.KernelIdeal.Mesh

open Cert.KernelIdeal Cert.KernelIdeal.Gen
open Idealize.ShloMosaic

variable {F : FTy → Type} [FloatOps F]

set_option maxRecDepth 100000 in
theorem body_eq (t : Fin cfg0.N) : bodyAt0 (F := F) t = body := by with_unfolding_all rfl

end Cert.KernelIdeal.Mesh
-- ==== Proof.Body.lean ====
/-
  The kernel's body: from a device's start to its end.
-/
module

public import proofs.«01_k».proof.Proof.Parts
public import proofs.«01_k».proof.Proof.BodyEq

@[expose] public section

set_option maxRecDepth 10000

noncomputable section

namespace Cert.KernelIdeal.Mesh

open Cert.KernelIdeal Cert.KernelIdeal.Gen
open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ)

/-! ## The operands' copies -/

/-- A buffer at given contents. -/
abbrev at_ (c : Dev nD) (b : Ref sig .tc) (f : Buf (Elt F) ((c : Thread nD τ).loc b)) : sProp 𝕄 := ((c : Thread nD τ).loc b) ↦{fullShare} f

omit [FloatOps F] in
theorem hz : (![0, 0] : Fin 2 → ℕ) = fun _ => 0 := funext fun a => by fin_cases a <;> rfl

theorem pay2_eq (v : Vec F S1536x768 .bf16) : k0_pay2 v = v := by
  unfold k0_pay2; dsimp only; rw [shapeCast_self, shapeCast_self]
theorem pay3_eq (v : Vec F S768x1536 .bf16) : k0_pay3 v = v := by
  unfold k0_pay3; dsimp only; rw [shapeCast_self, shapeCast_self]

theorem copyA (f w : (cc0_scratch0 : Ref sig .tc).ty.Contents (Elt F)) :
    ((Memref.whole cc0_scratch0 : Memref sig .tc .vmem S1536x768 .bf16).access (Rect.unit (s := S1536x768) ![0, 0] S1536x768.size inb_S1536x768_S1536x768_0_0) : View sig .tc _ _ _).write (Elt F) f
      (k0_pay2 ((Memref.whole cc0_stg0_0 : Memref sig .tc .vmem S1536x768 .bf16).view.readAt (Elt F) (Rect.unit (s := S1536x768) ![0, 0] S1536x768.size inb_S1536x768_S1536x768_0_0).toLoadRect w)) Finset.univ = w := by
  rw [pay2_eq]
  exact (Memref.write_access_unit_zero_univ (Elt F) cc0_scratch0 hz _ f _).trans (Memref.readAt_unit_zero (Elt F) cc0_stg0_0 hz _ w)

theorem wp_fillA (c : Dev nD) (k : Pr F) (Q : PUnit.{1} → sProp 𝕄) :
    iprop(at_ c cc0_stg0_0 (xa m c) ∗ buf c cc0_scratch0) ⊢ iprop((at_ c cc0_stg0_0 (xa m c) ∗ opA m c -∗ run c k Q) -∗ run c (fillA k) Q) := by
  iintro ⟨Hx, ⟨%f, Hs⟩⟩ Hk
  unfold fillA
  iapply (wp_load (defs := defs₀ (F := F)) 𝒱₀ (c : Thread nD τ) none Set.univ (m := (Memref.whole cc0_stg0_0 : Memref sig .tc .vmem S1536x768 .bf16)) (Finset.subset_univ _)) $$ Hx
  iintro Hx
  iapply (wp_load (defs := defs₀ (F := F)) 𝒱₀ (c : Thread nD τ) none Set.univ (m := (Memref.whole cc0_scratch0 : Memref sig .tc .vmem S1536x768 .bf16)) (Finset.subset_univ _)) $$ Hs
  iintro Hs
  iapply (wp_store (defs := defs₀ (F := F)) 𝒱₀ (c : Thread nD τ) none Set.univ (m := (Memref.whole cc0_scratch0 : Memref sig .tc .vmem S1536x768 .bf16)) (r := Rect.unit (s := S1536x768) ![0, 0] S1536x768.size inb_S1536x768_S1536x768_0_0) (Mk := Finset.univ) (Finset.subset_univ _)) $$ Hs
  iintro Hs
  iapply Hk
  isplitl [Hx]; · iexact Hx
  unfold opA
  iapply (Entails.of_eq (congrArg (at_ c cc0_scratch0) (copyA f (xa m c))))
  iexact Hs

theorem copyB (f w : (cc0_scratch1 : Ref sig .tc).ty.Contents (Elt F)) :
    ((Memref.whole cc0_scratch1 : Memref sig .tc .vmem S768x1536 .bf16).access (Rect.unit (s := S768x1536) ![0, 0] S768x1536.size inb_S768x1536_S768x1536_0_0) : View sig .tc _ _ _).write (Elt F) f
      (k0_pay3 ((Memref.whole cc0_stg1_0 : Memref sig .tc .vmem S768x1536 .bf16).view.readAt (Elt F) (Rect.unit (s := S768x1536) ![0, 0] S768x1536.size inb_S768x1536_S768x1536_0_0).toLoadRect w)) Finset.univ = w := by
  rw [pay3_eq]
  exact (Memref.write_access_unit_zero_univ (Elt F) cc0_scratch1 hz _ f _).trans (Memref.readAt_unit_zero (Elt F) cc0_stg1_0 hz _ w)

theorem wp_fillB (c : Dev nD) (k : Pr F) (Q : PUnit.{1} → sProp 𝕄) :
    iprop(at_ c cc0_stg1_0 (xb m c) ∗ buf c cc0_scratch1) ⊢ iprop((at_ c cc0_stg1_0 (xb m c) ∗ opB m c -∗ run c k Q) -∗ run c (fillB k) Q) := by
  iintro ⟨Hx, ⟨%f, Hs⟩⟩ Hk
  unfold fillB
  iapply (wp_load (defs := defs₀ (F := F)) 𝒱₀ (c : Thread nD τ) none Set.univ (m := (Memref.whole cc0_stg1_0 : Memref sig .tc .vmem S768x1536 .bf16)) (Finset.subset_univ _)) $$ Hx
  iintro Hx
  iapply (wp_load (defs := defs₀ (F := F)) 𝒱₀ (c : Thread nD τ) none Set.univ (m := (Memref.whole cc0_scratch1 : Memref sig .tc .vmem S768x1536 .bf16)) (Finset.subset_univ _)) $$ Hs
  iintro Hs
  iapply (wp_store (defs := defs₀ (F := F)) 𝒱₀ (c : Thread nD τ) none Set.univ (m := (Memref.whole cc0_scratch1 : Memref sig .tc .vmem S768x1536 .bf16)) (r := Rect.unit (s := S768x1536) ![0, 0] S768x1536.size inb_S768x1536_S768x1536_0_0) (Mk := Finset.univ) (Finset.subset_univ _)) $$ Hs
  iintro Hs
  iapply Hk
  isplitl [Hx]; · iexact Hx
  unfold opB
  iapply (Entails.of_eq (congrArg (at_ c cc0_scratch1) (copyB f (xb m c))))
  iexact Hs

/-! ## The barrier -/

theorem wp_sig1 (K : Dev nD × CIx → ℕ) (c : Dev nD) (j : Fin 4) (O : CellTallies nD τ sig Unit) (k : Pr F) (Q : PUnit.{1} → sProp 𝕄) :
    iprop(records m K ∗ dutyTok ER (barCell (nbr j c)) 0 j ∗ barPay (nbr j c) j ∗ debt c (O + tallyAt (barCell (nbr j c)) () 1))
      ⊢ iprop((debt c O -∗ run c k Q) -∗ run c (sig1 c j k) Q) := by
  have h1 := rec_inv m K (nbr j c, none)
  have h2 := rec_reached m K (nbr j c, none)
  unfold debt
  iintro ⟨#HR, Ht, Hp, ⟨%W, HO⟩⟩ Hk
  unfold sig1
  iapply (Rounds.wp_signal (defs := defs₀ (F := F)) 𝒱₀ ER (sched m) (c : Thread nD τ) none (dst := (nbr j c : Thread nD τ)) (κ := K (nbr j c, none))
      (d := j) (by rw [duties_bar]; exact Finset.mem_univ _) ((amount_bar m (nbr j c) j).trans (by decide)) () O rfl) $$ [Ht Hp HO]
  · isplitr; · iapply h1; iexact HR
    isplitl [HO]; · iexact HO
    isplitl [Ht]; · iexact Ht
    isplitl [Hp]; · rw [payload_bar]; iexact Hp
    iapply h2; iexact HR
  iintro HO
  iapply Hk
  iexists W; iexact HO

theorem wp_bar (K : Dev nD × CIx → ℕ) (c : Dev nD) (l : List Msg) (k : PUnit.{1} → Pr F) (Q : PUnit.{1} → sProp 𝕄) :
    iprop(records m K ∗ cred (tallyAt (barCell c) () 4) ∗ atPos ER (barCell c) 0 ∅ 0 ∗ debt c (owe c l))
      ⊢ iprop((atPos ER (barCell c) 1 ∅ 0 ∗ (bigSep Finset.univ fun j => barPay c j) ∗ debt c (owe c l) -∗ run c (k ⟨⟩) Q)
        -∗ run c (.op (.semWait barSem 4) k) Q) := by
  have h1 := rec_inv m K (c, none)
  have h3 := (rec_lev m K).trans (mayWait_lt c (.reg barSem) l fun x _ => by
    rw [ixOf_bar]; exact Nat.lt_of_lt_of_le (by decide) (Nat.le_add_right 2 _))
  unfold debt
  iintro ⟨#HR, Hc, Ha, ⟨%W, HO⟩⟩ Hk
  iapply (Rounds.wp_wait_rest_token (defs := defs₀ (F := F)) 𝒱₀ ER (sched m) (c : Thread nD τ) none (κ := K (c, none))
      (wpE_semWait_eq 𝒱₀ (c : Thread nD τ) none Set.univ) (Set.mem_univ _) () (O := owe c l) (W := W) (R := 0) (m := 0) (T := ∅)
      (by rw [expect_bar])) $$ [Hc HO Ha]
  · isplitr; · iapply h1; iexact HR
    isplitl [Hc]; · iexact Hc
    isplitl [HO]; · iexact HO
    isplitr; · iapply h3; iexact HR
    iexact Ha
  iintro ⟨HO, Ha, -, Hp⟩
  iapply Hk
  isplitl [Ha]; · iexact Ha
  isplitl [Hp]; · iapply (Entails.of_eq (rest_bar m c)); iexact Hp
  iexists _; iexact HO

/-! ## The cells' end -/

/-- A device's semaphores, all at zero. -/
def closed (c : Dev nD) : sProp 𝕄 :=
  iprop(semVal (barCell c) 0 ∗ (bigSep Finset.univ fun x : Msg => semVal (sendCell c x) 0) ∗ (bigSep Finset.univ fun x : Msg => semVal (recvCell c x) 0))

theorem close_one (K : Dev nD × CIx → ℕ) (c : Dev nD) (ix : CIx) :
    iprop(records m K ∗ atPos ER (kcell (c, ix)) 1 ∅ 0) ⊢ |={Set.univ}=> semVal (kcell (c, ix)) 0 := by
  have h1 := rec_inv m K (c, ix)
  iintro ⟨#HR, Ha⟩
  iapply (Rounds.cell_close ER (sched m) (Set.mem_univ (K (c, ix))) (fun h => h) (R := 0 + 1) (duties_later m (kcell (c, ix))))
  isplitr; · iapply h1; iexact HR
  iexact Ha

theorem close_all (K : Dev nD × CIx → ℕ) (c : Dev nD) :
    iprop(records m K ∗ atPos ER (barCell c) 1 ∅ 0 ∗ bigSep Finset.univ fun x : Msg => doneR c x) ⊢ |={Set.univ}=> closed c := by
  have h0 := close_one m K c none
  have h2 : ∀ b, iprop(records m K ∗ bigSep Finset.univ fun x : Msg => atPos ER (kcell (c, some (b, x))) 1 ∅ 0)
      ⊢ |={Set.univ}=> bigSep Finset.univ fun x : Msg => semVal (kcell (c, some (b, x))) 0 := fun b => by
    refine (sep_mono_left (BI.bigSep_of_persistent (Finset.univ : Finset Msg) (records m K))).trans ?_
    rw [← bigSep_sep']
    exact (bigSep_mono fun x _ => close_one m K c (some (b, x))).trans (bigSep_fupd (E := Set.univ) (Finset.univ : Finset Msg) _)
  have h3 := h2 false
  have h4 := h2 true
  unfold doneR closed
  rw [bigSep_sep']
  iintro ⟨#HR, Ha, Hs, Hr⟩
  imod h0 $$ [Ha] with H0
  · isplitr; · iexact HR
    iexact Ha
  imod h3 $$ [Hs] with H1
  · isplitr; · iexact HR
    iexact Hs
  imod h4 $$ [Hr] with H2
  · isplitr; · iexact HR
    iexact Hr
  imodintro
  isplitl [H0]; · iexact H0
  isplitl [H1]; · iexact H1
  iexact H2

/-! ## The body -/

/-- What stays with a device: its place in its cells' schedule, the barrier's credit, and the duties it pays. -/
def linear (c : Dev nD) : sProp 𝕄 :=
  iprop(atPos ER (barCell c) 0 ∅ 0 ∗ cred (tallyAt (barCell c) () 4) ∗ (bigSep Finset.univ fun j : Fin 4 => dutyTok ER (barCell (nbr j c)) 0 j)
    ∗ (bigSep Finset.univ fun x : Msg => iprop(dutyTok ER (sendCell c x) 0 0 ∗ dutyTok ER (recvCell (tgt x c) x) 0 0))
    ∗ (bigSep Finset.univ fun x : Msg => dueR c x))

/-- The scratch buffers. -/
def bufs (c : Dev nD) : sProp 𝕄 :=
  iprop(buf c cc0_scratch0 ∗ buf c cc0_scratch1 ∗ buf c cc0_scratch2 ∗ buf c cc0_scratch3 ∗ buf c cc0_scratch4 ∗ buf c cc0_scratch5
    ∗ buf c cc0_scratch6 ∗ buf c cc0_scratch7 ∗ buf c cc0_scratch8 ∗ buf c cc0_scratch9)

/-- What the body leaves. -/
def post (c : Dev nD) : sProp 𝕄 :=
  iprop(bufs c ∗ closed c ∗ debt c 0 ∗ at_ c cc0_stg0_0 (xa m c) ∗ at_ c cc0_stg1_0 (xb m c) ∗ at_ c cc0_stg2_0 (outv m))

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem todo_intro (c : Dev nD) :
    iprop((bigSep Finset.univ fun x : Msg => iprop(dutyTok ER (sendCell c x) 0 0 ∗ dutyTok ER (recvCell (tgt x c) x) 0 0))
      ∗ bigSep Finset.univ fun x : Msg => slotFree (tgt x c) (dstSlot x)) ⊢ (bigSep Finset.univ fun x : Msg => todoR (F := F) c x) := by
  rw [← bigSep_sep']
  refine bigSep_mono fun x _ => ?_
  unfold todoR
  exact (sep_assoc (PROP := sProp 𝕄)).1

theorem wp_body (K : Dev nD × CIx → ℕ) (c : Dev nD) (Q : PUnit.{1} → sProp 𝕄) :
    iprop(records m K ∗ linear c ∗ bufs c ∗ debt c (owe4 c (sends ops)) ∗ at_ c cc0_stg0_0 (xa m c) ∗ at_ c cc0_stg1_0 (xb m c) ∗ buf c cc0_stg2_0)
      ⊢ iprop((post m c -∗ Q ⟨⟩) -∗ run c body Q) := by
  obtain ⟨σ, hσ, hf⟩ : ∃ σ, steps ops ⟨init, []⟩ = some σ ∧ ∃ l, takeAll final σ.items = some l := by
    have h := plan_ok
    rw [Option.isSome_iff_exists] at h
    obtain ⟨l, hl⟩ := h
    obtain ⟨σ, h1, h2⟩ := Option.bind_eq_some_iff.mp hl
    exact ⟨σ, h1, l, h2⟩
  obtain ⟨l, hl⟩ := hf
  have hrun := steps_ok m K c Q ops ⟨init, []⟩ σ hσ
  have hend : hold m c σ.items ⊢ _ := (hold_takeAll m c final σ.items l hl).trans (sep_mono_left (hold_final m c))
  have hown := barPay_own (F := F) m c
  have hall := barPay_all (F := F) c
  unfold body linear bufs
  simp only [wp_deviceId]
  rw [bigSep_four]
  iintro ⟨#HR, ⟨HaB, HcB, ⟨Ht0, Ht1, Ht2, Ht3⟩, Htok, Hdue⟩, ⟨H0, H1, H2, H3, H4, H5, H6, H7, H8, H9⟩, HO, Hx, Hy, Ho⟩ Hk
  iapply (wp_fillA m c) $$ [Hx H0]
  · isplitl [Hx] <;> iassumption
  iintro ⟨Hx, HA⟩
  iapply (wp_fillB m c) $$ [Hy H1]
  · isplitl [Hy] <;> iassumption
  iintro ⟨Hy, HB⟩
  ihave Hp := (Entails.of_eq (hown.trans (bigSep_four _))) $$ [H3 H5 H8 H9]
  · isplitl [H3 H5 H8]
    · isplitl [H3 H5]
      · isplitl [H3] <;> iassumption
      iexact H8
    iexact H9
  icases Hp with ⟨Hp0, Hp1, Hp2, Hp3⟩
  unfold owe4
  iapply (wp_sig1 m K c 0) $$ [Ht0 Hp0 HO]
  · isplitr; · iexact HR
    isplitl [Ht0]; · iexact Ht0
    isplitl [Hp0] <;> iassumption
  iintro HO
  iapply (wp_sig1 m K c 1) $$ [Ht1 Hp1 HO]
  · isplitr; · iexact HR
    isplitl [Ht1]; · iexact Ht1
    isplitl [Hp1] <;> iassumption
  iintro HO
  iapply (wp_sig1 m K c 2) $$ [Ht2 Hp2 HO]
  · isplitr; · iexact HR
    isplitl [Ht2]; · iexact Ht2
    isplitl [Hp2] <;> iassumption
  iintro HO
  iapply (wp_sig1 m K c 3) $$ [Ht3 Hp3 HO]
  · isplitr; · iexact HR
    isplitl [Ht3]; · iexact Ht3
    isplitl [Hp3] <;> iassumption
  iintro HO
  iapply (wp_bar m K c (sends ops)) $$ [HcB HaB HO]
  · isplitr; · iexact HR
    isplitl [HcB]; · iexact HcB
    isplitl [HaB] <;> iassumption
  iintro ⟨HaB, Hp, HO⟩
  ihave Hp := (Entails.of_eq hall) $$ Hp
  ihave Htodo := (todo_intro (F := F) c) $$ [Htok Hp]
  · isplitl [Htok] <;> iassumption
  ihave Hini := (hold_init m c) $$ [H2 H4 H7 H6 Ho Htodo Hdue]
  · isplitl [H2 H4 H7]
    · isplitl [H2 H4]
      · isplitl [H2] <;> iassumption
      iexact H7
    isplitl [H6]; · iexact H6
    isplitl [Ho]; · iexact Ho
    isplitl [Htodo] <;> iassumption
  iapply hrun $$ [HA HB Hini HO]
  · isplitr; · iexact HR
    isplitl [HA HB]
    · isplitl [HA] <;> iassumption
    isplitl [Hini] <;> iassumption
  iintro ⟨⟨HA, HB⟩, Hh, HO⟩
  ihave He := hend $$ Hh
  icases He with ⟨⟨⟨⟨H2, H4⟩, H7⟩, ⟨⟨⟨H3, H5⟩, H8⟩, H9⟩, H6, Ho, Hd⟩, -⟩
  imod (close_all m K c) $$ [HaB Hd] with Hcl
  · isplitr; · iexact HR
    isplitl [HaB] <;> iassumption
  imodintro
  iapply Hk
  unfold post bufs opA opB
  isplitl [HA HB H2 H3 H4 H5 H6 H7 H8 H9]
  · isplitl [HA]; · iexists _; iexact HA
    isplitl [HB]; · iexists _; iexact HB
    isplitl [H2]; · iexact H2
    isplitl [H3]; · iexact H3
    isplitl [H4]; · iexact H4
    isplitl [H5]; · iexact H5
    isplitl [H6]; · iexact H6
    isplitl [H7]; · iexact H7
    isplitl [H8] <;> iassumption
  isplitl [Hcl]; · iexact Hcl
  isplitl [HO]; · iexact HO
  isplitl [Hx]; · iexact Hx
  isplitl [Hy] <;> iassumption

end Cert.KernelIdeal.Mesh
-- ==== Proof.Deal.lean ====
/-
  What the launch deals to the devices: the cells' invariants, the duties a device pays, and the credit it
  waits with.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

set_option maxRecDepth 10000

noncomputable section

namespace Cert.KernelIdeal.Mesh

open Cert.KernelIdeal Cert.KernelIdeal.Gen
open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ)

/-! ## Splitting over the cells of a device -/

omit [FloatOps F] in
theorem bigSep_two (Φ : Bool → sProp 𝕄) : bigSep Finset.univ Φ = iprop(Φ false ∗ Φ true) :=
  bigSep_univ_eq_bigSepL [false, true] (by decide) (by decide) Φ

omit [FloatOps F] in
/-- Over the departures and arrivals. -/
theorem bigSep_xfer (Φ : Bool × Msg → sProp 𝕄) :
    bigSep Finset.univ Φ = iprop((bigSep Finset.univ fun x => Φ (false, x)) ∗ bigSep Finset.univ fun x => Φ (true, x)) := by
  rw [bigSep_univ_prod, bigSep_two]

omit [FloatOps F] in
/-- Over all cells. -/
theorem bigSep_cells (Φ : CIx → sProp 𝕄) :
    bigSep Finset.univ Φ
      = iprop(Φ none ∗ (bigSep Finset.univ fun x => Φ (some (false, x))) ∗ bigSep Finset.univ fun x => Φ (some (true, x))) := by
  have h : (Finset.univ : Finset CIx).erase none = Finset.univ.map ⟨some, Option.some_injective _⟩ := by
    ext a; cases a <;> simp
  rw [bigSep_univ_at _ none, h, bigSep_map]
  exact congrArg (fun P => iprop(Φ none ∗ P)) (bigSep_xfer fun x => Φ (some x))

/-! ## The duties -/

/-- The duties of a device's own cells: a barrier's four, and one of each departure and arrival. -/
def tok (cj : Dev nD × (Fin 4 ⊕ Bool × Msg)) : GSem nD τ sig × ℕ × Fin 4 :=
  match cj.2 with
  | .inl j => (barCell cj.1, 0, j)
  | .inr x => (kcell (cj.1, some x), 0, 0)

theorem tok_injective : Function.Injective tok := by
  rintro ⟨c, i⟩ ⟨d, j⟩ h
  have hc : kcell (c, i.elim (fun _ => none) some) = kcell (d, j.elim (fun _ => none) some) := by
    rcases i with i | i <;> rcases j with j | j <;> exact congrArg Prod.fst h
  have hk := kcell_injective hc
  have h1 : c = d := congrArg Prod.fst hk
  subst h1
  rcases i with i | i <;> rcases j with j | j
  · have h2 : i = j := congrArg (fun y => y.2.2) h
    rw [h2]
  · cases (congrArg Prod.snd hk : (none : CIx) = some j)
  · cases (congrArg Prod.snd hk : (some i : CIx) = none)
  · rw [Option.some.inj (congrArg Prod.snd hk : (some i : CIx) = some j)]

def meshCells : Finset (GSem nD τ sig) := Finset.univ.map ⟨kcell, kcell_injective⟩
def meshToks : Finset (GSem nD τ sig × ℕ × Fin 4) := Finset.univ.map ⟨tok, tok_injective⟩

/-- The duties of a device's own cells, -/
def ownToks (c : Dev nD) : sProp 𝕄 :=
  iprop((bigSep Finset.univ fun j : Fin 4 => dutyTok ER (barCell c) 0 j)
    ∗ (bigSep Finset.univ fun x : Msg => dutyTok ER (sendCell c x) 0 0) ∗ bigSep Finset.univ fun x : Msg => dutyTok ER (recvCell c x) 0 0)
/-- and the duties a device pays. -/
def payToks (c : Dev nD) : sProp 𝕄 :=
  iprop((bigSep Finset.univ fun j : Fin 4 => dutyTok ER (barCell (nbr j c)) 0 j)
    ∗ bigSep Finset.univ fun x : Msg => iprop(dutyTok ER (sendCell c x) 0 0 ∗ dutyTok ER (recvCell (tgt x c) x) 0 0))

/-- A step in a direction, as a permutation of the devices. -/
def step1 (j : Fin 4) : Dev nD ≃ Dev nD where
  toFun := nbr j
  invFun := nbr (opp j)
  left_inv := nbr_opp j
  right_inv c := by have h := nbr_opp (opp j) c; rwa [opp_opp] at h

omit [FloatOps F] in
/-- A family over devices and another index, each member taken at the device one step away. -/
theorem bigSep_shift {J : Type} [Fintype J] [DecidableEq J] (e : J → Dev nD ≃ Dev nD) (Φ : Dev nD → J → sProp 𝕄) :
    (bigSep Finset.univ fun c => bigSep Finset.univ fun j => Φ c j) = bigSep Finset.univ fun c => bigSep Finset.univ fun j => Φ (e j c) j := by
  rw [bigSep_univ_comm, bigSep_univ_comm (fun c j => Φ (e j c) j)]
  exact bigSep_congr fun j _ => bigSep_univ_equiv (e j) fun c => Φ c j

omit [FloatOps F] in
theorem toks_dealt : (bigSep Finset.univ fun c : Dev nD => (ownToks c : sProp 𝕄)) = bigSep Finset.univ fun c : Dev nD => payToks c := by
  unfold ownToks payToks
  rw [bigSep_sep', bigSep_sep', bigSep_sep', bigSep_shift step1 fun c j => dutyTok ER (barCell c) 0 j,
    bigSep_shift (fun x => step1 x.dir) fun c x => dutyTok ER (recvCell c x) 0 0, ← bigSep_sep']
  refine congrArg₂ _ rfl (bigSep_congr fun c _ => ?_)
  rw [bigSep_sep']
  rfl

/-! ## The launch's ghost state -/

/-- Both copies of the schedule's state: the staging's, and the mesh's. -/
def u₀ : UU :=
  (initOf (Pipeline.cells cfgs cellOf_inj) (Pipeline.launchToks cfgs cellOf_inj), initOf meshCells meshToks)

/-- What a device is dealt at first, -/
def G (c : Dev nD) : sProp 𝕄 :=
  iprop((bigSep Finset.univ fun k : CIx => roundState ER (sched m) (kcell (c, k)) 0)
    ∗ (bigSep Finset.univ fun k : CIx => reached ER (kcell (c, k)) 0) ∗ (bigSep Finset.univ fun k : CIx => atPos ER (kcell (c, k)) 0 ∅ 0) ∗ ownToks c)

/-- and what it has once the cells are allocated, but for the levels. -/
def G' (c : Dev nD) : sProp 𝕄 :=
  iprop((∃ K : Dev nD × CIx → ℕ, (bigSep Finset.univ fun ck : Dev nD × CIx => cellInv ER (sched m) (K ck) (kcell ck))
      ∗ bigSep Finset.univ fun ck : Dev nD × CIx => reached ER (kcell ck) 0)
    ∗ (bigSep Finset.univ fun k : CIx => atPos ER (kcell (c, k)) 0 ∅ 0) ∗ payToks c)

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : CIx => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => ownToks c := by
    unfold meshToks; rw [bigSep_map, bigSep_univ_prod]
    refine bigSep_congr fun c _ => ?_
    rw [bigSep_univ_sum, bigSep_xfer]
    rfl
  refine (Rounds.fund ER (sched m) meshCells meshToks).trans (BI.bupd_mono ?_)
  rw [hX, hX, hX, hT, ← bigSep_sep', ← bigSep_sep', ← bigSep_sep']
  exact Entails.refl _

/-! ## The cells -/

/-- The kernel's own semaphores: all but the barrier's. -/
abbrev osem (x : Bool × Msg) : SemLoc sig := csem (some x)

theorem ownSemFacts : Pipeline.OwnSemFacts cfg0.spec osem where
  isScoped := by decide +kernel
  inj _ _ h := Option.some.inj (csem_injective h)
  disj := by decide +kernel

omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun x : Msg => semVal (sendCell c x) 0) ∗ bigSep Finset.univ fun x : Msg => semVal (recvCell c x) 0) :=
  bigSep_xfer fun x => semVal ((c : Thread nD τ), osem x) 0

omit [FloatOps F] in
theorem unscopedSems_eq (c : Dev nD) : (unscopedSems0 c : sProp 𝕄) = semVal (barCell c) 0 := by
  unfold unscopedSems0; rw [bigSep_eq_bigSepL_of_eq [SemLoc.reg barSem] (by decide +kernel) (by decide)]; rfl

omit [FloatOps F] in
theorem sems_closed (c : Dev nD) :
    iprop(unscopedSems0 c ∗ Pipeline.ownSems0 (Ix := Unit) (Name := ℕ) (U := UU) (Lvl := ℕ) (Val := Elt F) (τ := τ) osem c) = (closed c : sProp 𝕄) := by
  rw [ownSems_eq, unscopedSems_eq]; rfl

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (sched m) κ (kcell (c, k))))
          ∗ (bigSep Finset.univ fun k : CIx => reached ER (kcell (c, k)) 0) ∗ (bigSep Finset.univ fun k : CIx => atPos ER (kcell (c, k)) 0 ∅ 0) ∗ ownToks c) := by
  have hall : (bigSep Finset.univ fun k : CIx => (semVal (kcell (c, k)) 0 : sProp 𝕄)) = closed c := by
    rw [bigSep_cells]; rfl
  have hinv : iprop((bigSep Finset.univ fun k : CIx => semVal (kcell (c, k)) 0) ∗ bigSep Finset.univ fun k : CIx => roundState ER (sched m) (kcell (c, k)) 0)
      ⊢ (|={Set.univ}=> bigSep Finset.univ fun k : CIx => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd Finset.univ _)
  rw [hall] at hinv
  have hs := sems_closed (F := F) c
  unfold G
  iintro ⟨Hos, Hus, Hst, Hrest⟩
  imod hinv $$ [Hos Hus Hst] with Hinv
  · isplitl [Hos Hus]
    · iapply (Entails.of_eq hs)
      isplitl [Hus] <;> iassumption
    iexact Hst
  imodintro
  isplitl [Hinv]; · iexact Hinv
  iexact Hrest

theorem regroup :
    (bigSep Finset.univ fun c : Dev nD => iprop((bigSep Finset.univ fun k : CIx => iprop(∃ κ : ℕ, cellInv ER (sched m) κ (kcell (c, k))))
          ∗ (bigSep Finset.univ fun k : CIx => reached ER (kcell (c, k)) 0) ∗ (bigSep Finset.univ fun k : CIx => atPos ER (kcell (c, k)) 0 ∅ 0) ∗ ownToks c) : sProp 𝕄)
      ⊢ bigSep Finset.univ (G' m) := by
  rw [bigSep_sep', bigSep_sep', bigSep_sep', toks_dealt,
    ← bigSep_univ_prod (fun ck : Dev nD × CIx => iprop(∃ κ : ℕ, cellInv ER (sched m) κ (kcell ck))),
    ← bigSep_univ_prod (fun ck : Dev nD × CIx => (reached ER (kcell ck) 0 : sProp 𝕄)), ← bigSep_sep']
  have hdup : ∀ (P : sProp 𝕄) [BI.Persistent P] (Φ : Dev nD → sProp 𝕄), iprop(P ∗ bigSep Finset.univ Φ) ⊢ bigSep Finset.univ fun c => iprop(P ∗ Φ c) := fun P _ Φ => by
    rw [bigSep_sep']
    exact sep_mono_left (BI.bigSep_of_persistent (Finset.univ : Finset (Dev nD)) P)
  iintro ⟨HI, #HR, Hrest⟩
  ihave HK := (BI.bigSep_exists_pi Finset.univ (fun (ck : Dev nD × CIx) (κ : ℕ) => (cellInv ER (sched m) κ (kcell ck) : sProp 𝕄))) $$ HI
  icases HK with ⟨%K, #HI⟩
  unfold G'
  iapply (hdup iprop(∃ K : Dev nD × CIx → ℕ, (bigSep Finset.univ fun ck : Dev nD × CIx => cellInv ER (sched m) (K ck) (kcell ck))
      ∗ bigSep Finset.univ fun ck : Dev nD × CIx => reached ER (kcell ck) 0) _)
  isplitr
  · iexists K
    isplitr
    · iexact HI
    iexact HR
  iexact Hrest

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd Finset.univ _)).trans (BI.fupd_mono (regroup m))

/-! ## The credit -/

theorem cell_eq_iff {a b : Dev nD} {k l : CIx} : kcell (a, k) = kcell (b, l) ↔ a = b ∧ k = l :=
  ⟨fun h => ⟨congrArg Prod.fst (kcell_injective h), congrArg Prod.snd (kcell_injective h)⟩, fun h => by rw [h.1, h.2]⟩

theorem owe_bar (d c : Dev nD) : ∀ l, owe d l (barCell c) () = 0 := fun l => by
  by_contra h
  obtain ⟨x, _, e⟩ := owe_pos (Nat.pos_of_ne_zero h)
  cases (cell_eq_iff (k := none) (l := some (true, x))).mp e |>.2

theorem owe_recv (d c : Dev nD) (x : Msg) : ∀ l, owe d l (recvCell c x) () = l.count x * if c = tgt x d then N else 0
  | [] => (Nat.zero_mul _).symm
  | y :: l => by
    unfold owe
    rw [Pi.add_apply, Finsupp.add_apply, owe_recv d c x l, tallyAt_apply, List.count_cons, Nat.add_mul]
    congr 1
    have e : (recvCell c x = recvCell (tgt y d) y) ↔ (c = tgt y d ∧ x = y) :=
      (cell_eq_iff (k := some (true, x)) (l := some (true, y))).trans (and_congr_right fun _ => by simp)
    by_cases h : y = x
    · subst h
      simp [e]
    · rw [if_neg fun q => h (e.mp q.1).2.symm, if_neg (by simpa using h), Nat.zero_mul]

/-- What device `d` owes device `c`'s barrier: a unit in each direction that leads there. -/
theorem owe4_bar (d c : Dev nD) (l : List Msg) : owe4 d l (barCell c) () = ∑ j : Fin 4, if c = nbr j d then 1 else 0 := by
  have e : ∀ j, (barCell c = barCell (nbr j d)) ↔ c = nbr j d := fun j =>
    (cell_eq_iff (k := none) (l := none)).trans (and_iff_left rfl)
  unfold owe4
  simp only [Pi.add_apply, Finsupp.add_apply, owe_bar, tallyAt_apply, e, and_true, Fin.sum_univ_four]
  omega

theorem owe4_recv (d c : Dev nD) (x : Msg) (l : List Msg) : owe4 d l (recvCell c x) () = l.count x * if c = tgt x d then N else 0 := by
  have e : ∀ j, recvCell c x ≠ barCell (nbr j d) := fun j h => by
    cases ((cell_eq_iff (k := some (true, x)) (l := none)).mp h).2
  unfold owe4
  simp only [Pi.add_apply, Finsupp.add_apply, tallyAt_ne_cell (e _), Finsupp.zero_apply, Nat.add_zero]
  exact owe_recv d c x l

theorem sends_once : ∀ x : Msg, (sends ops).count x = 1 := by decide +kernel

/-- What a device owes at the start. -/
def O₀ (c : Dev nD) : CellTallies nD τ sig Unit := owe4 c (sends ops)

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same]
  unfold O₀
  rw [Finset.sum_congr rfl fun d _ => owe4_bar d c _, Finset.sum_comm]
  have h : ∀ j : Fin 4, (∑ d : Dev nD, if c = nbr j d then 1 else 0) = 1 := fun j => by
    rw [Finset.sum_congr rfl fun d _ => if_congr (show (c = nbr j d) ↔ d = (step1 j).symm c from
      ⟨fun e => by rw [e]; exact ((step1 j).symm_apply_apply d).symm, fun e => by rw [e]; exact ((step1 j).apply_symm_apply c).symm⟩) rfl rfl]
    rw [Finset.sum_ite_eq' Finset.univ _ fun _ => 1, if_pos (Finset.mem_univ _)]
  rw [Finset.sum_congr rfl fun j _ => h j]
  rfl

theorem launch_recv (c : Dev nD) (x : Msg) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same]
  unfold O₀
  rw [Finset.sum_congr rfl fun d _ => (owe4_recv d c x _).trans (by rw [sends_once, Nat.one_mul]),
    Finset.sum_congr rfl fun d _ => if_congr (show (c = tgt x d) ↔ d = src x c from
      ⟨fun e => by rw [e, src_tgt], fun e => by rw [e, tgt_src]⟩) rfl rfl,
    Finset.sum_ite_eq' Finset.univ _ fun _ => N, if_pos (Finset.mem_univ _)]

omit [FloatOps F] in
theorem creds (c : Dev nD) :
    (Pipeline.launchCred O₀ c : sProp 𝕄) ⊢ iprop(cred (tallyAt (barCell c) () 4) ∗ bigSep Finset.univ fun x : Msg => cred (tallyAt (recvCell c x) () N)) := by
  have hinj : Function.Injective fun x : Msg => csem (some (true, x)) := fun x y h =>
    congrArg Prod.snd (Option.some.inj (csem_injective h))
  have hsub : (Finset.univ.image fun x : Msg => csem (some (true, x))) ⊆ Finset.univ.erase (SemLoc.reg barSem) := fun s hs => by
    obtain ⟨x, _, rfl⟩ := Finset.mem_image.mp hs
    exact Finset.mem_erase.mpr ⟨fun h => (by cases (csem_injective (a₁ := some (true, x)) (a₂ := none) h)), Finset.mem_univ _⟩
  unfold Pipeline.launchCred
  rw [bigSep_univ_at _ (SemLoc.reg barSem), launch_bar]
  have e : (bigSep (Finset.univ.image fun x : Msg => csem (some (true, x))) fun s =>
      (cred (tallyOn ((c : Thread nD τ), s) (launchCredit (Pipeline.owing O₀) 0 ((c : Thread nD τ), s))) : sProp 𝕄))
      = bigSep Finset.univ fun x : Msg => cred (tallyAt (recvCell c x) () N) := by
    rw [bigSep_image_of_injOn hinj.injOn]
    exact bigSep_congr fun x _ => congrArg _ (launch_recv c x)
  exact sep_mono_right ((BI.bigSep_subset hsub).trans (e ▸ Entails.refl _))

end Cert.KernelIdeal.Mesh
-- ==== Proof.Launch.lean ====
/-
  The launch: from any memory, every run of the kernel on the sixteen devices ends, with the devices' result
  arrays at known contents.
-/
module

public import proofs.«01_k».proof.Proof.Deal

@[expose] public section

set_option maxRecDepth 10000

noncomputable section

namespace Cert.KernelIdeal.Mesh

open Cert.KernelIdeal Cert.KernelIdeal.Gen
open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's data -/

/-- What the body starts from, but for the scratch buffers, -/
def begin_ (c : Dev nD) : sProp 𝕄 := iprop((∃ K, records m K) ∗ linear c)

/-- The operands staged, the body run, the result written back. -/
def dats (_ : Fin 1) (c : Dev nD) : Dat τ (Elt F) Unit ℕ UU ℕ cfg0 c where
  A w := m ((cfg0.win w).arr.view.loc (c : Thread nD τ))
  after w _ := match w with
    | ⟨0, _⟩ => xa m c
    | ⟨1, _⟩ => xb m c
    | ⟨2, _⟩ => outv m
  Φ t := match t with
    | ⟨0, _⟩ => iprop(begin_ m c ∗ bufs c)
    | ⟨_ + 1, _⟩ => iprop(closed c ∗ bufs c)
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ at_ c b f) := by
  unfold owns; simp only [Memref.view_whole, View.read_whole, View.set_whole]

/-! ## The body's obligation -/

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ at_ c b f)

def bodyPre (c : Dev nD) : sProp 𝕄 :=
  iprop((begin_ m c ∗ bufs c) ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop((closed c ∗ bufs c) ∗ (dats m 0 c).owesAt () t0_0.succ
    ∗ stg c cc0_stg0_0 (xa m c) ∗ stg c cc0_stg1_0 (xb m c) ∗ stg c cc0_stg2_0 (outv m))

theorem body_sound (c : Dev nD) : bodyPre m c ⊢ run c body fun _ => bodyPost m c := by
  have ha : ∀ d, (dats m 0 c).before (0 : Fin 3) t0_0 d = xa m c := fun d => by
    unfold Dat.before; rw [if_pos (fetch0_0 t0_0)]; rfl
  have hb : ∀ d, (dats m 0 c).before (1 : Fin 3) t0_0 d = xb m c := fun d => by
    unfold Dat.before; rw [if_pos (fetch0_1 t0_0)]; rfl
  unfold bodyPre begin_ Dat.owesAt Pipeline.owesWithin
  rw [show (dats m 0 c).owed t0_0.castSucc = owe4 c (sends ops) from rfl]
  iintro ⟨⟨⟨⟨%K, HR⟩, Hl⟩, Hb⟩, ⟨%W, %hW, HO⟩, ⟨%d0, %g0, %h0, Hx⟩, ⟨%d1, %g1, %h1, Hy⟩, ⟨%d2, %g2, %h2, Ho⟩⟩
  rw [ha] at h0
  rw [hb] at h1
  subst h0 h1
  iapply (wp_body m K c fun _ => bodyPost m c) $$ [HR Hl Hb HO Hx Hy Ho]
  · isplitl [HR]; · iexact HR
    isplitl [Hl]; · iexact Hl
    isplitl [Hb]; · iexact Hb
    isplitl [HO]; · unfold debt; iexists W; iexact HO
    isplitl [Hx]; · iexact Hx
    isplitl [Hy]; · iexact Hy
    iexists g2; iexact Ho
  unfold post debt bodyPost Dat.owesAt Pipeline.owesWithin
  rw [show (dats m 0 c).owed t0_0.succ = 0 from rfl]
  iintro ⟨Hb, Hc, ⟨%V, HO⟩, Hx, Hy, Ho⟩
  isplitl [Hc Hb]
  · isplitl [Hc] <;> iassumption
  isplitl [HO]
  · iexists V
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Ho

set_option maxRecDepth 200000 in
theorem body_obligation (c : Dev nD) : BodyObligation (dats m 0 c) (defs₀ (F := F)) 𝒱₀ () Set.univ := fun t => by
  rw [fin_N0 t, bigSep_W0, bigSep_W0]
  simp only [owns_whole]
  show bodyPre m c ⊢ run c (bodyAt0 t0_0) fun _ => bodyPost m c
  rw [body_eq]
  exact body_sound m c

/-! ## Side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begin_ m c ∗ emp) := by
  have hc := creds (F := F) c
  have hat : (bigSep Finset.univ fun k : CIx => (atPos ER (kcell (c, k)) 0 ∅ 0 : sProp 𝕄)) ⊢ _ := Entails.of_eq (bigSep_cells _)
  unfold G' begin_ linear payToks dueR records
  rw [bigSep_sep', bigSep_sep', bigSep_sep']
  iintro ⟨-, Hlev, Hcr, -, ⟨%K, HI, HR⟩, Hat, Hbt, Hxt⟩
  ihave Hc := hc $$ Hcr
  icases Hc with ⟨HcB, HcX⟩
  ihave Ha := hat $$ Hat
  icases Ha with ⟨HaB, HaS, HaR⟩
  imodintro
  isplitl
  · isplitl [HI HR Hlev]
    · iexists K
      isplitl [HI]; · iexact HI
      isplitl [HR] <;> iassumption
    isplitl [HaB]; · iexact HaB
    isplitl [HcB]; · iexact HcB
    isplitl [Hbt]; · iexact Hbt
    isplitl [Hxt]; · iexact Hxt
    isplitl [HcX]; · iexact HcX
    isplitl [HaS]; · iexact HaS
    iexact HaR
  · iempintro

theorem phi_first (c : Dev nD) :
    iprop(begin_ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(begin_ m c ∗ bufs c) from rfl, scopedRest0_eq]
  unfold bufs
  iintro ⟨Hs, -, Hr⟩
  isplitl [Hs] <;> iassumption

theorem phi_last (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(closed c ∗ bufs c) from rfl, scopedRest0_eq, ← sems_closed]
  unfold bufs
  iintro ⟨⟨Hu, Ho⟩, Hr⟩
  isplitl [Hu]; · iexact Hu
  isplitl [Ho] <;> iassumption

/-- The staging's semaphores are none of the protocol's. -/
theorem ixOf_stage (w : Fin cfg0.W) (s : Fin (cfg0.win w).nbuf) : ixOf (.dma ((cfg0.win w).sem s)) = none := by
  unfold ixOf
  refine dif_neg ?_
  rintro ⟨_ | x, h⟩
  · cases h
  · exact ownSemFacts.disj x w s h

theorem waits_ok (c : Dev nD) : (levAts L lv : sProp 𝕄) ⊢ Pipeline.cellsWaits cfgs (dats m) () 0 c :=
  Pipeline.cellsWaits_intro cfgs (dats m) () 0 c fun w s t => by
    rcases t with ⟨_ | t, ht⟩
    · exact mayWait_stage c _ (ixOf_stage w s) (sends ops)
    · rw [show (dats m 0 c).owed ⟨t + 1, ht⟩ = 0 from rfl, MayWait_zero]; iintro -; iempintro

/-! ## The run -/

/-- What a window's array holds after the run. -/
def finalA (c : Dev nD) (w : Fin cfg0.W) : Buf (Elt F) ((cfg0.win w).arr.view.loc (c : Thread nD τ)) := (dats m 0 c).arrAt w cfg0.N

set_option maxRecDepth 200000 in
/-- Every weakly fair run ends, with the windows' arrays as computed and every counter at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits_ok m)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := begin_ m) (Y := fun c => unscopedSems0 c) (Z := fun _ => iprop(emp))
    (hX := start_intro m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_0 (c : Dev nD) : finalA m c (0 : Fin 3) = m ((c : Thread nD τ).loc main_arg0) := (dats m 0 c).arrAt_in (0 : Fin 3) rfl _
theorem finalA_1 (c : Dev nD) : finalA m c (1 : Fin 3) = m ((c : Thread nD τ).loc main_arg1) := (dats m 0 c).arrAt_in (1 : Fin 3) rfl _

end Cert.KernelIdeal.Mesh
-- ==== Proof.Frames.lean ====
/-
  The frames: each program, from any memory, ends with its arguments as they were and every counter at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 20000

noncomputable section

namespace Cert.Proof

open Idealize.ShloMosaic Idealize.SL.Sem
open Cert.KernelIdeal.Mesh (run_main finalA_0 finalA_1)

/-- The two readings of the kernel have one body, -/
theorem table₀_eq : Cert.Kernel.defs₀ (F := Bits) = Cert.KernelIdeal.defs₀ (F := Bits) := by
  unfold Cert.Kernel.defs₀ Cert.KernelIdeal.defs₀
  congr 1
  funext l a
  match l, a with
  | ⟨0, _⟩, (t, s) => exact rfl

/-- so one table of bodies with the pipeline's, -/
theorem table_eq : Cert.Kernel.defs (F := Bits) = Cert.KernelIdeal.defs (F := Bits) :=
  congrArg (Pipeline.defs Cert.KernelIdeal.pcfgs) table₀_eq

/-- and the first one's frame is an instance of the run over any float values. -/
theorem frame_kernel : Cert.quiescent_Kernel := by
  intro m ρ _
  rw [table_eq]
  exact (θ_run Cert.KernelIdeal.defs _ _).mono
    (fun _ h => (⟨fun c => ⟨(h.1 c 0).trans (finalA_0 m c), (h.1 c 1).trans (finalA_1 m c)⟩, h.2⟩ :
      (∀ c : Dev Cert.KernelIdeal.nD, _ ∧ _) ∧ _))
    (run_main (F := Bits) m ρ)

/-- The second's is the run at the extended reals. -/
theorem frame_kernelIdeal : Cert.quiescent_KernelIdeal := fun m ρ _ =>
  (θ_run Cert.KernelIdeal.defs _ _).mono
    (fun _ h => ⟨fun c => ⟨(h.1 c 0).trans (finalA_0 m c), (h.1 c 1).trans (finalA_1 m c)⟩, h.2⟩)
    (run_main (F := Ideal) m ρ)

/-- The reference is host operations alone, which write neither argument, and it declares no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Visit.lean ====
/-
  The devices a chunk's sum visits: each of the sixteen once, and always at the same rows.
-/
module

public import proofs.«01_k».proof.Proof.Content

@[expose] public section

set_option maxRecDepth 10000

noncomputable section

namespace Cert.KernelIdeal.Mesh

open Cert.KernelIdeal Cert.KernelIdeal.Gen
open Idealize.ShloMosaic Idealize.ShloMosaic.TcCoe Idealize.SL.Sem

/-- The device `t` hops back along the third axis and `k` hops back in its plane. -/
def visit (d : Fin 2) (c : Dev nD) (t k : Fin 4) : Dev nD := pback d k.val (zback d t.val c)

/-- A chunk's sum starts on the device three hops back in the plane, at the rows the device finishes, -/
theorem own_row : ∀ (d : Fin 2) (c : Dev nD) (t : Fin 4), ownOff (visit d c t 3) d (3 - t) = ![96 * rowBlk d c, 0] := by
  decide +kernel

/-- and takes the same rows of each device it passes. -/
theorem loc_row : ∀ (d : Fin 2) (c : Dev nD) (t : Fin 4) (s : Fin 3),
    locOff (visit d c t s.castSucc) d (2 - s) (3 - t) = ![96 * rowBlk d c, 0] := by decide +kernel

theorem visit_inj : ∀ (d : Fin 2) (c : Dev nD) (t k t' k' : Fin 4), visit d c t k = visit d c t' k' → t = t' ∧ k = k' := by
  decide +kernel

/-- So a sum over the hops is one over the devices. -/
theorem sum_visit {M : Type} [AddCommMonoid M] (d : Fin 2) (c : Dev nD) (f : Dev nD → M) :
    ∑ t : Fin 4, ∑ k : Fin 4, f (visit d c t k) = ∑ e : Dev nD, f e := by
  have inj : Function.Injective fun p : Fin 4 × Fin 4 => visit d c p.1 p.2 := fun p q h =>
    Prod.ext (visit_inj d c _ _ _ _ h).1 (visit_inj d c _ _ _ _ h).2
  have bij : Function.Bijective fun p : Fin 4 × Fin 4 => visit d c p.1 p.2 :=
    (Fintype.bijective_iff_injective_and_card _).mpr ⟨inj, by decide⟩
  rw [← Fintype.sum_prod_type' fun t k => f (visit d c t k)]
  exact bij.sum_comp f

end Cert.KernelIdeal.Mesh

end
-- ==== Proof.Value.lean ====
/-
  The result over the extended reals: each entry is the nonlinearity of one sum over the whole contracted axis.
-/
module

public import proofs.«01_k».proof.Proof.Visit
public import proofs.«01_k».proof.Proof.Launch
public import proofs.«01_k».proof.Proof.Gen.ReferenceIdeal.Run
public import Idealize.ShloMosaic.Lib.MatmulPlain
public import Idealize.ShloMosaic.Lib.IdealHost
public import Idealize.ShloMosaic.Lib.ValueIdx
public import Idealize.ShloMosaic.Lib.Layout

@[expose] public section

set_option maxRecDepth 10000

noncomputable section

namespace Cert.KernelIdeal.Mesh

open Cert.KernelIdeal Cert.KernelIdeal.Gen
open Idealize.ShloMosaic Idealize.ShloMosaic.TcCoe Idealize.SL.Sem
open Idealize.ShloMosaic.ValueIdx
open scoped BigOperators

/-! ## One device's part of an entry -/

/-- A row of one block against a column of the other. -/
def rowCol (x : S1536x768.Idx → EReal) (y : S768x1536.Idx → EReal) (r s : Fin 1536) : EReal :=
  ∑ k : Fin 768, x (ix2 r k) * y (ix2 k s)

/-- A chunk of rows, read at an entry, -/
theorem rowsAt_apply (x : S1536x768.Idx → EReal) (off : Fin 2 → ℕ) (inb) (b : ℕ) (h : off = ![96 * b, 0])
    (i : Fin 96) (k : Fin 768) (r : Fin 1536) (hr : r.val = 96 * b + i.val) :
    rowsAt (F := Ideal) x off inb (ix2 i k) = x (ix2 r k) := by
  subst h
  refine congrArg x (funext fun a => Fin.ext ?_)
  match a with
  | 0 => show 96 * b + 1 * i.val = r.val; omega
  | 1 => show 0 + 1 * k.val = k.val; omega

/-- and half the columns. -/
theorem colsAt_apply (y : S768x1536.Idx → EReal) (d : Fin 2) (k j : Fin 768) (s : Fin 1536) (hs : s.val = 768 * d.val + j.val) :
    colsAt (F := Ideal) y d (ix2 k j) = y (ix2 k s) := by
  refine congrArg y (funext fun a => Fin.ext ?_)
  match a with
  | 0 => show 0 + 1 * k.val = k.val; omega
  | 1 => show 768 * d.val + 1 * j.val = s.val; omega

/-- A chunk's product, entry by entry. -/
theorem dotv_apply (x : S96x768.Idx → EReal) (y : S768x768.Idx → EReal) (i : Fin 96) (j : Fin 768) :
    dotv (F := Ideal) x y (ix2 i j) = ∑ k : Fin 768, x (ix2 i k) * y (ix2 k j) := by
  refine (Ideal.matmul_plain_apply (M := 96) (K := 768) (N := 768) (φ₁ := .bf16) (φ₂ := .bf16) none x y
    (constant S96x768 .f32 0x00000000#32) i j).trans ?_
  show Ideal.ofBits .f32 0x00000000#32 + _ = _
  rw [Ideal.ofBits_zero_f32, zero_add]

/-- A device's part of a chunk is its rows against its columns. -/
theorem part_eq (x : S1536x768.Idx → EReal) (y : S768x1536.Idx → EReal) (off : Fin 2 → ℕ) (inb) (b : ℕ) (h : off = ![96 * b, 0])
    (d : Fin 2) (i : Fin 96) (j : Fin 768) (r s : Fin 1536) (hr : r.val = 96 * b + i.val) (hs : s.val = 768 * d.val + j.val) :
    dotv (F := Ideal) (rowsAt (F := Ideal) x off inb) (colsAt (F := Ideal) y d) (ix2 i j) = rowCol x y r s := by
  rw [dotv_apply]
  exact Finset.sum_congr rfl fun k _ => by rw [rowsAt_apply x off inb b h i k r hr, colsAt_apply y d k j s hs]

/-! ## The sum over the devices -/

section Sum
variable (X : Dev nD → S1536x768.Idx → EReal) (Y : Dev nD → S768x1536.Idx → EReal)
variable (d : Fin 2) (c : Dev nD) (i : Fin 96) (j : Fin 768) (r s : Fin 1536)
  (hr : r.val = 96 * rowBlk d c + i.val) (hs : s.val = 768 * d.val + j.val)
include hr hs

/-- The plane's part of an entry. -/
theorem plane_sum (t : Fin 4) :
    predv (F := Ideal) X Y d (3 - t) (zback d t.val c) (ix2 i j)
      = ∑ k : Fin 4, rowCol (X (visit d c t k)) (Y (visit d c t k)) r s := by
  have l (q : Fin 3) : locv (F := Ideal) X Y d (2 - q) (3 - t) (visit d c t q.castSucc) (ix2 i j)
      = rowCol (X (visit d c t q.castSucc)) (Y (visit d c t q.castSucc)) r s :=
    part_eq _ _ _ _ _ (loc_row d c t q) d i j r s hr hs
  have o : ownv (F := Ideal) X Y d (3 - t) (visit d c t 3) (ix2 i j) = rowCol (X (visit d c t 3)) (Y (visit d c t 3)) r s :=
    part_eq _ _ _ _ _ (own_row d c t) d i j r s hr hs
  rw [Fin.sum_univ_four]
  refine Eq.trans ?_ (congrArg₂ (· + ·) (congrArg₂ (· + ·) (congrArg₂ (· + ·) (l 0) (l 1)) (l 2)) o)
  rw [add_assoc, add_assoc]
  rfl

/-- The whole sum of an entry: every device's part once. -/
theorem mesh_sum : zfinv (F := Ideal) X Y d c (ix2 i j) = ∑ e : Dev nD, rowCol (X e) (Y e) r s := by
  rw [← sum_visit d c fun e => rowCol (X e) (Y e) r s, Fin.sum_univ_four]
  have p (t : Fin 4) := plane_sum X Y d c i j r s hr hs t
  refine Eq.trans ?_ (congrArg₂ (· + ·) (congrArg₂ (· + ·) (congrArg₂ (· + ·) (p 0) (p 1)) (p 2)) (p 3))
  rw [add_assoc, add_assoc]
  rfl

end Sum

/-! ## The reference's sum -/

/-- The contracted axis, cut into sixteen blocks. -/
theorem sum_blocks (f : Fin 12288 → EReal) :
    ∑ K, f K = ∑ e : Fin 16, ∑ k : Fin 768, f ⟨768 * e.val + k.val, by omega⟩ := by
  rw [← Fintype.sum_prod_type' fun (e : Fin 16) (k : Fin 768) => f ⟨768 * e.val + k.val, by omega⟩]
  refine ((finProdFinEquiv (m := 16) (n := 768)).sum_comp f).symm.trans (Finset.sum_congr rfl fun p _ => ?_)
  exact congrArg f (Fin.ext (Nat.add_comm _ _))

/-- An entry of the reference's product. -/
theorem host_dot (P : Cert.ReferenceIdeal.S1536x12288.Idx → EReal) (Q : Cert.ReferenceIdeal.S12288x1536.Idx → EReal) (r s : Fin 1536) :
    Host.dotGeneral (F := Ideal) (φ₁ := .f32) (φ₂ := .f32) Cert.ReferenceIdeal.dot_S1536x12288_S12288x1536_S1536x1536_1_0_0_1_n_n none P Q (ix2 r s)
      = ∑ K : Fin 12288, P (ix2 r K) * Q (ix2 K s) := by
  refine (Ideal.matmul_plain_apply (M := 1536) (K := 12288) (N := 1536) (φ₁ := .f32) (φ₂ := .f32) none P Q (fun _ => (0 : EReal)) r s).trans ?_
  exact zero_add _

/-- An entry of the product is the sum of the devices' parts. -/
theorem dot_blocks (P : Cert.ReferenceIdeal.S1536x12288.Idx → EReal) (Q : Cert.ReferenceIdeal.S12288x1536.Idx → EReal)
    (X : Dev nD → S1536x768.Idx → EReal) (Y : Dev nD → S768x1536.Idx → EReal)
    (hX : ∀ c, X c = Layout.block ⟨2, ![1536, 768]⟩ ⟨2, ![1536, 12288]⟩ 1 16 c P)
    (hY : ∀ c, Y c = Layout.block ⟨2, ![768, 1536]⟩ ⟨2, ![12288, 1536]⟩ 0 16 c Q) (r s : Fin 1536) :
    ∑ K : Fin 12288, P (ix2 r K) * Q (ix2 K s) = ∑ e : Dev nD, rowCol (X e) (Y e) r s := by
  rw [sum_blocks]
  refine Finset.sum_congr rfl fun e _ => Finset.sum_congr rfl fun k _ => ?_
  rw [hX, hY]
  refine congrArg₂ (· * ·) (congrArg P (funext fun a => Fin.ext ?_)) (congrArg Q (funext fun a => Fin.ext ?_))
  · match a with
    | 0 => rfl
    | 1 => show 768 * e.val + k.val = e.val * 768 + k.val; omega
  · match a with
    | 0 => show 768 * e.val + k.val = e.val * 768 + k.val; omega
    | 1 => rfl

/-! ## The nonlinearity -/

/-- The nonlinearity of one value. -/
def gelu1 (z : EReal) : EReal :=
  Ideal.ofBits .f32 0x3F000000#32 * z * (Ideal.ofBits .f32 0x3F800000#32 + Ideal.tanh (Ideal.ofBits .f32 0x3F4C422A#32 *
    (z + Ideal.ofBits .f32 0x3D372713#32 * z * z * z)))

/-- A device's block of the result applies it to its sums: over the extended reals a rounding changes nothing. -/
theorem gbv_apply (X : Dev nD → S1536x768.Idx → EReal) (Y : Dev nD → S768x1536.Idx → EReal) (d : Fin 2) (c : Dev nD) (x : S96x768.Idx) :
    gbv (F := Ideal) X Y d c x = gelu1 (zfinv (F := Ideal) X Y d c x) := rfl

/-! ## The result -/

variable (m : (ℓ : Loc nD τ sig) → Buf (Elt Ideal) ℓ)

/-- The operands' windows are whole. -/
theorem xa_eq (c : Dev nD) : xa m c = m ((c : Thread nD τ).loc main_arg0) := by
  unfold xa
  exact Memref.read_access_unit_zero (Elt Ideal) main_arg0 (by decide) _ _
theorem xb_eq (c : Dev nD) : xb m c = m ((c : Thread nD τ).loc main_arg1) := by
  unfold xb
  exact Memref.read_access_unit_zero (Elt Ideal) main_arg1 (by decide) _ _

theorem rowBlk_devOf (d : Fin 2) (n : ℕ) (h : n < 16) : rowBlk d (devOf d n) = n := by
  obtain ⟨c, e⟩ := rowBlk_surj d ⟨n, h⟩
  have e : rowBlk d c = n := e
  rw [← e, devOf_rowBlk]

/-- Every entry of the result. -/
theorem outv_apply (r s : Fin 1536) : outv m (ix2 r s) = gelu1 (∑ e : Dev nD, rowCol (xa m e) (xb m e) r s) := by
  have hr : r.val / 96 < 16 := by omega
  have hs : s.val / 768 < 2 := by omega
  have e := mesh_sum (xa m) (xb m) ⟨s.val / 768, hs⟩ (devOf ⟨s.val / 768, hs⟩ (r.val / 96)) ⟨r.val % 96, Nat.mod_lt _ (by decide)⟩
    ⟨s.val % 768, Nat.mod_lt _ (by decide)⟩ r s (by rw [rowBlk_devOf _ _ hr]; show r.val = 96 * (r.val / 96) + r.val % 96; omega)
    (by show s.val = 768 * (s.val / 768) + s.val % 768; omega)
  rw [← e, ← gbv_apply]
  refine congrArg (gbv (F := Ideal) (xa m) (xb m) _ _) (funext fun a => ?_)
  match a with
  | 0 => rfl
  | 1 => rfl

/-- The result's window is whole. -/
theorem blk_set (n : ℕ) (h : n < 1) : (win0_2.blk (⟨n, h⟩ : Fin 1)).view.set = Finset.univ := by
  obtain rfl : n = 0 := by omega
  refine Finset.eq_univ_iff_forall.mpr fun i => Finset.mem_map.mpr ⟨i, Finset.mem_univ _, funext fun a => Fin.ext ?_⟩
  match a with
  | 0 => show 0 + 1 * (i 0).val = (i 0).val; omega
  | 1 => show 0 + 1 * (i 1).val = (i 1).val; omega

/-- The result is left in the devices' result arrays. -/
theorem finalA_2 (c : Dev nD) : finalA m c (2 : Fin 3) = outv m := by
  refine (dats m 0 c).arrAt_eq_of_cover (2 : Fin 3) (outv m) (fun t _ => ?_) fun i => ⟨(0 : Fin 1), flush0_2 _, ?_⟩
  · match t with
    | ⟨0, _⟩ => exact (Memref.read_access_unit_zero (Elt Ideal) main_v1 (by decide +revert) _ _).symm
  · exact (blk_set 0 Nat.one_pos).symm ▸ Finset.mem_univ i

end Cert.KernelIdeal.Mesh

end
-- ==== Proof.Algebraic.lean ====
/-
  Over the extended reals, the kernel's result on every device is the reference's.
-/
module

public import proofs.«01_k».proof.Defs
public import proofs.«01_k».proof.Proof.Value

@[expose] public section

set_option maxRecDepth 20000

noncomputable section

namespace Cert.Proof

open Idealize.ShloMosaic Idealize.SL.Sem
open Idealize.ShloMosaic.ValueIdx
open Cert.KernelIdeal.Mesh

/-- Both programs end with the nonlinearity of the whole product: the kernel's sums over devices and the reference's
    single sum have the same terms. -/
theorem algebraic : Cert.algebraic_KernelIdeal_ReferenceIdeal := by
  intro m g m' g' _ agree
  refine ⟨outv m, ?_, ?_⟩
  · exact (θ_run Cert.KernelIdeal.defs _ _).mono
      (fun _ h c => ⟨(h.1 c 2).trans (finalA_2 m c), (h.1 c 0).trans (finalA_0 m c), (h.1 c 1).trans (finalA_1 m c)⟩)
      (run_main (F := Ideal) m g)
  · refine (θ_run Cert.ReferenceIdeal.defs _ _).mono (fun _ h => ⟨(h 0).1.trans ?_, (h 0).2⟩)
      (Cert.ReferenceIdeal.Value.run (F := Ideal) m' g')
    funext i
    obtain ⟨r, s, rfl⟩ : ∃ r s : Fin 1536, i = ix2 r s := ⟨i 0, i 1, eq_ix2 i⟩
    rw [outv_apply, ← dot_blocks _ _ (xa m) (xb m) (fun c => (xa_eq m c).trans (agree c).1) (fun c => (xb_eq m c).trans (agree c).2),
      ← host_dot]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
